-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_self_weights_nonneg [hPre_self_weights_nonneg : Cert.Pre_self_weights_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_self_weights_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_self_weights_nonneg [hPre_self_weights_nonneg : Cert.Pre_self_weights_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_self_weights_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_self_weights_nonneg [hKernelIdeal : Cert.KernelIdeal.Facts] [hPre_self_weights_nonneg : Cert.Pre_self_weights_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_self_weights_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_self_weights_nonneg [hReferenceIdeal : Cert.ReferenceIdeal.Facts] [hPre_self_weights_nonneg : Cert.Pre_self_weights_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_self_weights_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_self_weights_nonneg [hKernelIdeal : Cert.KernelIdeal.Facts] [hReferenceIdeal : Cert.ReferenceIdeal.Facts] [hPre_self_weights_nonneg : Cert.Pre_self_weights_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_self_weights_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_self_weights_nonneg : Cert.Pre_self_weights_nonneg.Facts),
    quiescent_Kernel (hKernel := hKernel)
    ∧ quiescent_KernelIdeal (hKernelIdeal := hKernelIdeal)
    ∧ quiescent_KernelIdeal_pre_self_weights_nonneg (hKernelIdeal := hKernelIdeal) (hPre_self_weights_nonneg := hPre_self_weights_nonneg)
    ∧ quiescent_ReferenceIdeal (hReferenceIdeal := hReferenceIdeal)
    ∧ quiescent_ReferenceIdeal_pre_self_weights_nonneg (hReferenceIdeal := hReferenceIdeal) (hPre_self_weights_nonneg := hPre_self_weights_nonneg)
    ∧ preserves_Kernel_KernelIdeal
    ∧ algebraic_KernelIdeal_ReferenceIdeal_pre_self_weights_nonneg (hKernelIdeal := hKernelIdeal) (hReferenceIdeal := hReferenceIdeal) (hPre_self_weights_nonneg := hPre_self_weights_nonneg)
-- ==== Pre_self_weights_nonneg.lean ====
abbrev S10000x128 : Shape := ⟨2, ![10000, 128]⟩
abbrev S10000x10000 : Shape := ⟨2, ![10000, 10000]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)

variable [Facts]

def fn_where {F : FTy → Type} [FloatOps F] (arg0 : IVec S10000x10000 1) (arg1 : FVec F S10000x10000 .f32) (arg2 : FVec F S_ .f32) : FVec F S10000x10000 .f32 :=
  let v0 : FVec F S_ .f32 := id arg2
  let v1 : FVec F S10000x10000 .f32 := broadcastInDim S10000x10000 ![] bcast_S_S10000x10000 v0
  let v2 : FVec F S10000x10000 .f32 := select arg0 arg1 v1
  v2

def fn {F : FTy → Type} [FloatOps F] (main_arg0 : FVec F S10000x128 .f32) (main_arg1 : FVec F S10000x10000 .f32) (main_arg2 : FVec F S1 .f32) (main_arg3 : FVec F S128x128 .f32) (main_arg4 : FVec F S128 .f32) : IVec S10000x10000 1 :=
  let main_v0 : IVec S10000x10000 32 := iotaInDim S10000x10000 32 0
  let main_v1 : IVec S10000x10000 32 := iotaInDim S10000x10000 32 1
  let main_c : IVec S_ 32 := constantI S_ 32 0#32
  let main_v2 : IVec S10000x10000 32 := broadcastInDim S10000x10000 ![] bcast_S_S10000x10000 main_c
  let main_v3 : IVec S10000x10000 32 := addi main_v0 main_v2
  let main_v4 : IVec S10000x10000 1 := cmpi .eq main_v3 main_v1
  let main_cst : FVec F S_ .f32 := constant S_ .f32 0x00000000#32
  let main_v5 : FVec F S10000x10000 .f32 := fn_where (F := F) main_v4 main_arg1 main_cst
  let main_cst_0 : FVec F S_ .f32 := constant S_ .f32 0x00000000#32
  let main_v6 : FVec F S10000x10000 .f32 := broadcastInDim S10000x10000 ![] bcast_S_S10000x10000 main_cst_0
  let main_v7 : IVec S10000x10000 1 := cmpf .oge main_v5 main_v6
  main_v7
-- ==== Kernel.lean ====
abbrev S10000x128 : Shape := ⟨2, ![10000, 128]⟩
abbrev S10000x10000 : Shape := ⟨2, ![10000, 10000]⟩
abbrev S1 : Shape := ⟨1, ![1]⟩
abbrev S128x128 : Shape := ⟨2, ![128, 128]⟩
abbrev S128 : Shape := ⟨1, ![128]⟩
abbrev S1x128 : Shape := ⟨2, ![1, 128]⟩
abbrev S400x128 : Shape := ⟨2, ![400, 128]⟩
abbrev S400x10000 : Shape := ⟨2, ![400, 10000]⟩
abbrev S10000x1 : Shape := ⟨2, ![10000, 1]⟩
abbrev S2x400x10000 : Shape := ⟨3, ![2, 400, 10000]⟩
abbrev S400 : Shape := ⟨1, ![400]⟩
abbrev S400x1 : Shape := ⟨2, ![400, 1]⟩
abbrev S1x400x10000 : Shape := ⟨3, ![1, 400, 10000]⟩

abbrev nBuf : Space → Nat
  | .hbm => 7
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S128x128, .f32⟩
  | .local _ .vmem, ⟨3, _⟩ => ⟨S1x128, .f32⟩
  | .local _ .vmem, ⟨4, _⟩ => ⟨S400x10000, .f32⟩
  | .local _ .vmem, ⟨5, _⟩ => ⟨S400x10000, .f32⟩
  | .local _ .vmem, ⟨6, _⟩ => ⟨S400x128, .f32⟩
  | .local _ .vmem, ⟨7, _⟩ => ⟨S400x128, .f32⟩
  | .local _ .vmem, ⟨8, _⟩ => ⟨S10000x1, .f32⟩
  | .local _ .vmem, ⟨9, _⟩ => ⟨S10000x128, .f32⟩
  | .local _ .vmem, ⟨10, _⟩ => ⟨S2x400x10000, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c25_i32_0 : BitVec 32 := 25#32
  let v1 : BitVec 1 := Scalar.cmpi .slt arg0 c25_i32_0
  let v2 : BitVec 32 := Scalar.extui v1
  let c0_i32 : BitVec 32 := 0#32
  let v3 : BitVec 1 := Scalar.cmpi .ne v2 c0_i32
  v3

def k0_off1 (i : grid0.Coords) : Fin 2 → Nat :=
  let arg0 : BitVec 32 := BitVec.ofNat 32 (i 0).val
  let c400_i32 : BitVec 32 := 400#32
  let v51 : BitVec 32 := Scalar.muli arg0 c400_i32
  let v57 : Index := Scalar.indexCast v51
  let c0_21 : Index := 0#32
  ![v57.toNat, 0]
def k0_off2 (i : grid0.Coords) : Fin 2 → Nat :=
  let arg0 : BitVec 32 := BitVec.ofNat 32 (i 0).val
  let c400_i32 : BitVec 32 := 400#32
  let v51 : BitVec 32 := Scalar.muli arg0 c400_i32
  let v64 : Index := Scalar.indexCast v51
  let c0_27 : Index := 0#32
  ![v64.toNat, 0]
def k0_cond2 (i : grid0.Coords) : BitVec 1 :=
  let arg0 : BitVec 32 := BitVec.ofNat 32 (i 0).val
  let c22_i32 : BitVec 32 := 22#32
  let v4 : BitVec 1 := Scalar.cmpi .sge arg0 c22_i32
  let c24_i32 : BitVec 32 := 24#32
  let v5 : BitVec 1 := Scalar.cmpi .slt arg0 c24_i32
  let v6 : BitVec 1 := Scalar.andi v4 v5
  let v7 : BitVec 32 := Scalar.extui v6
  let c0_i32_1 : BitVec 32 := 0#32
  let v8 : BitVec 1 := Scalar.cmpi .ne v7 c0_i32_1
  v8

def k0_off3 (i : grid0.Coords) : Fin 3 → Nat :=
  let arg0 : BitVec 32 := BitVec.ofNat 32 (i 0).val
  let c22_i32_19 : BitVec 32 := 22#32
  let v51 : BitVec 32 := Scalar.subi arg0 c22_i32_19
  let v54 : Index := Scalar.indexCast v51
  let c0_21 : Index := 0#32
  let c0_22 : Index := 0#32
  ![v54.toNat, 0, 0]
def k0_cond4 (i : grid0.Coords) : BitVec 1 :=
  let arg0 : BitVec 32 := BitVec.ofNat 32 (i 0).val
  let c25_i32_15 : BitVec 32 := 25#32
  let v42 : BitVec 1 := Scalar.cmpi .sge arg0 c25_i32_15
  let c25_i32 : BitVec 32 := 25#32
  let v0 : BitVec 32 := Scalar.subi arg0 c25_i32
  let c12_i32_9 : BitVec 32 := 12#32
  let c0_i32_10 : BitVec 32 := 0#32
  let v29 : BitVec 1 := Scalar.cmpi .eq c12_i32_9 c0_i32_10
  let c1_i32_11 : BitVec 32 := 1#32
  let v30 : BitVec 32 := Scalar.select v29 c1_i32_11 c12_i32_9
  let v31 : BitVec 32 := Scalar.remsi v0 v30
  let c0_i32_13 : BitVec 32 := 0#32
  let v33 : BitVec 1 := Scalar.cmpi .slt v31 c0_i32_13
  let c0_i32_14 : BitVec 32 := 0#32
  let v34 : BitVec 1 := Scalar.cmpi .slt v30 c0_i32_14
  let v35 : BitVec 1 := Scalar.xori v33 v34
  let c0_i32_12 : BitVec 32 := 0#32
  let v32 : BitVec 1 := Scalar.cmpi .ne v31 c0_i32_12
  let v36 : BitVec 1 := Scalar.andi v35 v32
  let v37 : BitVec 32 := Scalar.addi v31 v30
  let v38 : BitVec 32 := Scalar.select v36 v37 v31
  let c11_i32 : BitVec 32 := 11#32
  let v39 : BitVec 1 := Scalar.cmpi .eq v38 c11_i32
  let c0_i32_4 : BitVec 32 := 0#32
  let v13 : BitVec 1 := Scalar.cmpi .sgt v0 c0_i32_4
  let v14 : BitVec 32 := Scalar.extui v13
  let c0_i32_5 : BitVec 32 := 0#32
  let v15 : BitVec 1 := Scalar.cmpi .slt v0 c0_i32_5
  let v16 : BitVec 32 := Scalar.extui v15
  let v17 : BitVec 32 := Scalar.subi v14 v16
  let c12_i32 : BitVec 32 := 12#32
  let c0_i32_6 : BitVec 32 := 0#32
  let v18 : BitVec 1 := Scalar.cmpi .sgt c12_i32 c0_i32_6
  let v19 : BitVec 32 := Scalar.extui v18
  let c0_i32_7 : BitVec 32 := 0#32
  let v20 : BitVec 1 := Scalar.cmpi .slt c12_i32 c0_i32_7
  let v21 : BitVec 32 := Scalar.extui v20
  let v22 : BitVec 32 := Scalar.subi v19 v21
  let v23 : BitVec 1 := Scalar.cmpi .ne v17 v22
  let v24 : BitVec 32 := Scalar.remsi v0 c12_i32
  let c0_i32_8 : BitVec 32 := 0#32
  let v25 : BitVec 1 := Scalar.cmpi .ne v24 c0_i32_8
  let v26 : BitVec 1 := Scalar.andi v23 v25
  let v12 : BitVec 32 := Scalar.divsi v0 c12_i32
  let c1_i32 : BitVec 32 := 1#32
  let v27 : BitVec 32 := Scalar.subi v12 c1_i32
  let v28 : BitVec 32 := Scalar.select v26 v27 v12
  let c2_i32 : BitVec 32 := 2#32
  let v40 : BitVec 1 := Scalar.cmpi .slt v28 c2_i32
  let v41 : BitVec 1 := Scalar.andi v39 v40
  let v43 : BitVec 1 := Scalar.andi v42 v41
  let v44 : BitVec 32 := Scalar.extui v43
  let c0_i32_16 : BitVec 32 := 0#32
  let v45 : BitVec 1 := Scalar.cmpi .ne v44 c0_i32_16
  v45

def k0_off4 (i : grid0.Coords) : Fin 3 → Nat :=
  let arg0 : BitVec 32 := BitVec.ofNat 32 (i 0).val
  let c25_i32 : BitVec 32 := 25#32
  let v0 : BitVec 32 := Scalar.subi arg0 c25_i32
  let c0_i32_4 : BitVec 32 := 0#32
  let v13 : BitVec 1 := Scalar.cmpi .sgt v0 c0_i32_4
  let v14 : BitVec 32 := Scalar.extui v13
  let c0_i32_5 : BitVec 32 := 0#32
  let v15 : BitVec 1 := Scalar.cmpi .slt v0 c0_i32_5
  let v16 : BitVec 32 := Scalar.extui v15
  let v17 : BitVec 32 := Scalar.subi v14 v16
  let c12_i32 : BitVec 32 := 12#32
  let c0_i32_6 : BitVec 32 := 0#32
  let v18 : BitVec 1 := Scalar.cmpi .sgt c12_i32 c0_i32_6
  let v19 : BitVec 32 := Scalar.extui v18
  let c0_i32_7 : BitVec 32 := 0#32
  let v20 : BitVec 1 := Scalar.cmpi .slt c12_i32 c0_i32_7
  let v21 : BitVec 32 := Scalar.extui v20
  let v22 : BitVec 32 := Scalar.subi v19 v21
  let v23 : BitVec 1 := Scalar.cmpi .ne v17 v22
  let v24 : BitVec 32 := Scalar.remsi v0 c12_i32
  let c0_i32_8 : BitVec 32 := 0#32
  let v25 : BitVec 1 := Scalar.cmpi .ne v24 c0_i32_8
  let v26 : BitVec 1 := Scalar.andi v23 v25
  let v12 : BitVec 32 := Scalar.divsi v0 c12_i32
  let c1_i32 : BitVec 32 := 1#32
  let v27 : BitVec 32 := Scalar.subi v12 c1_i32
  let v28 : BitVec 32 := Scalar.select v26 v27 v12
  let v51 : Index := Scalar.indexCast v28
  let c0 : Index := 0#32
  let c0_19 : Index := 0#32
  ![v51.toNat, 0, 0]
def k0_off5 (i : grid0.Coords) : Fin 2 → Nat :=
  let c22_i32_20 : BitVec 32 := 22#32
  let arg0 : BitVec 32 := BitVec.ofNat 32 (i 0).val
  let c25_i32 : BitVec 32 := 25#32
  let v0 : BitVec 32 := Scalar.subi arg0 c25_i32
  let c0_i32_4 : BitVec 32 := 0#32
  let v13 : BitVec 1 := Scalar.cmpi .sgt v0 c0_i32_4
  let v14 : BitVec 32 := Scalar.extui v13
  let c0_i32_5 : BitVec 32 := 0#32
  let v15 : BitVec 1 := Scalar.cmpi .slt v0 c0_i32_5
  let v16 : BitVec 32 := Scalar.extui v15
  let v17 : BitVec 32 := Scalar.subi v14 v16
  let c12_i32 : BitVec 32 := 12#32
  let c0_i32_6 : BitVec 32 := 0#32
  let v18 : BitVec 1 := Scalar.cmpi .sgt c12_i32 c0_i32_6
  let v19 : BitVec 32 := Scalar.extui v18
  let c0_i32_7 : BitVec 32 := 0#32
  let v20 : BitVec 1 := Scalar.cmpi .slt c12_i32 c0_i32_7
  let v21 : BitVec 32 := Scalar.extui v20
  let v22 : BitVec 32 := Scalar.subi v19 v21
  let v23 : BitVec 1 := Scalar.cmpi .ne v17 v22
  let v24 : BitVec 32 := Scalar.remsi v0 c12_i32
  let c0_i32_8 : BitVec 32 := 0#32
  let v25 : BitVec 1 := Scalar.cmpi .ne v24 c0_i32_8
  let v26 : BitVec 1 := Scalar.andi v23 v25
  let v12 : BitVec 32 := Scalar.divsi v0 c12_i32
  let c1_i32 : BitVec 32 := 1#32
  let v27 : BitVec 32 := Scalar.subi v12 c1_i32
  let v28 : BitVec 32 := Scalar.select v26 v27 v12
  let v55 : BitVec 32 := Scalar.addi c22_i32_20 v28
  let c400_i32 : BitVec 32 := 400#32
  let v58 : BitVec 32 := Scalar.muli v55 c400_i32
  let v59 : Index := Scalar.indexCast v58
  let c0_23 : Index := 0#32
  ![v59.toNat, 0]
def k0_off6 (i : grid0.Coords) : Fin 2 → Nat :=
  let c22_i32_20 : BitVec 32 := 22#32
  let arg0 : BitVec 32 := BitVec.ofNat 32 (i 0).val
  let c25_i32 : BitVec 32 := 25#32
  let v0 : BitVec 32 := Scalar.subi arg0 c25_i32
  let c0_i32_4 : BitVec 32 := 0#32
  let v13 : BitVec 1 := Scalar.cmpi .sgt v0 c0_i32_4
  let v14 : BitVec 32 := Scalar.extui v13
  let c0_i32_5 : BitVec 32 := 0#32
  let v15 : BitVec 1 := Scalar.cmpi .slt v0 c0_i32_5
  let v16 : BitVec 32 := Scalar.extui v15
  let v17 : BitVec 32 := Scalar.subi v14 v16
  let c12_i32 : BitVec 32 := 12#32
  let c0_i32_6 : BitVec 32 := 0#32
  let v18 : BitVec 1 := Scalar.cmpi .sgt c12_i32 c0_i32_6
  let v19 : BitVec 32 := Scalar.extui v18
  let c0_i32_7 : BitVec 32 := 0#32
  let v20 : BitVec 1 := Scalar.cmpi .slt c12_i32 c0_i32_7
  let v21 : BitVec 32 := Scalar.extui v20
  let v22 : BitVec 32 := Scalar.subi v19 v21
  let v23 : BitVec 1 := Scalar.cmpi .ne v17 v22
  let v24 : BitVec 32 := Scalar.remsi v0 c12_i32
  let c0_i32_8 : BitVec 32 := 0#32
  let v25 : BitVec 1 := Scalar.cmpi .ne v24 c0_i32_8
  let v26 : BitVec 1 := Scalar.andi v23 v25
  let v12 : BitVec 32 := Scalar.divsi v0 c12_i32
  let c1_i32 : BitVec 32 := 1#32
  let v27 : BitVec 32 := Scalar.subi v12 c1_i32
  let v28 : BitVec 32 := Scalar.select v26 v27 v12
  let v55 : BitVec 32 := Scalar.addi c22_i32_20 v28
  let c400_i32 : BitVec 32 := 400#32
  let v58 : BitVec 32 := Scalar.muli v55 c400_i32
  let v61 : Index := Scalar.indexCast v58
  let c0_24 : Index := 0#32
  ![v61.toNat, 0]
def k0_cond5 (i : grid0.Coords) : BitVec 1 :=
  let arg0 : BitVec 32 := BitVec.ofNat 32 (i 0).val
  let c25_i32_17 : BitVec 32 := 25#32
  let v46 : BitVec 1 := Scalar.cmpi .sge arg0 c25_i32_17
  let c25_i32 : BitVec 32 := 25#32
  let v0 : BitVec 32 := Scalar.subi arg0 c25_i32
  let c12_i32_9 : BitVec 32 := 12#32
  let c0_i32_10 : BitVec 32 := 0#32
  let v29 : BitVec 1 := Scalar.cmpi .eq c12_i32_9 c0_i32_10
  let c1_i32_11 : BitVec 32 := 1#32
  let v30 : BitVec 32 := Scalar.select v29 c1_i32_11 c12_i32_9
  let v31 : BitVec 32 := Scalar.remsi v0 v30
  let c0_i32_13 : BitVec 32 := 0#32
  let v33 : BitVec 1 := Scalar.cmpi .slt v31 c0_i32_13
  let c0_i32_14 : BitVec 32 := 0#32
  let v34 : BitVec 1 := Scalar.cmpi .slt v30 c0_i32_14
  let v35 : BitVec 1 := Scalar.xori v33 v34
  let c0_i32_12 : BitVec 32 := 0#32
  let v32 : BitVec 1 := Scalar.cmpi .ne v31 c0_i32_12
  let v36 : BitVec 1 := Scalar.andi v35 v32
  let v37 : BitVec 32 := Scalar.addi v31 v30
  let v38 : BitVec 32 := Scalar.select v36 v37 v31
  let c11_i32 : BitVec 32 := 11#32
  let v39 : BitVec 1 := Scalar.cmpi .eq v38 c11_i32
  let c0_i32_4 : BitVec 32 := 0#32
  let v13 : BitVec 1 := Scalar.cmpi .sgt v0 c0_i32_4
  let v14 : BitVec 32 := Scalar.extui v13
  let c0_i32_5 : BitVec 32 := 0#32
  let v15 : BitVec 1 := Scalar.cmpi .slt v0 c0_i32_5
  let v16 : BitVec 32 := Scalar.extui v15
  let v17 : BitVec 32 := Scalar.subi v14 v16
  let c12_i32 : BitVec 32 := 12#32
  let c0_i32_6 : BitVec 32 := 0#32
  let v18 : BitVec 1 := Scalar.cmpi .sgt c12_i32 c0_i32_6
  let v19 : BitVec 32 := Scalar.extui v18
  let c0_i32_7 : BitVec 32 := 0#32
  let v20 : BitVec 1 := Scalar.cmpi .slt c12_i32 c0_i32_7
  let v21 : BitVec 32 := Scalar.extui v20
  let v22 : BitVec 32 := Scalar.subi v19 v21
  let v23 : BitVec 1 := Scalar.cmpi .ne v17 v22
  let v24 : BitVec 32 := Scalar.remsi v0 c12_i32
  let c0_i32_8 : BitVec 32 := 0#32
  let v25 : BitVec 1 := Scalar.cmpi .ne v24 c0_i32_8
  let v26 : BitVec 1 := Scalar.andi v23 v25
  let v12 : BitVec 32 := Scalar.divsi v0 c12_i32
  let c1_i32 : BitVec 32 := 1#32
  let v27 : BitVec 32 := Scalar.subi v12 c1_i32
  let v28 : BitVec 32 := Scalar.select v26 v27 v12
  let c2_i32 : BitVec 32 := 2#32
  let v40 : BitVec 1 := Scalar.cmpi .slt v28 c2_i32
  let v41 : BitVec 1 := Scalar.andi v39 v40
  let v_true : BitVec 1 := 1#1
  let v47 : BitVec 1 := Scalar.xori v41 v_true
  let v48 : BitVec 1 := Scalar.andi v46 v47
  let v49 : BitVec 32 := Scalar.extui v48
  let c0_i32_18 : BitVec 32 := 0#32
  let v50 : BitVec 1 := Scalar.cmpi .ne v49 c0_i32_18
  v50

def k0_off7 (i : grid0.Coords) : Fin 2 → Nat :=
  let arg0 : BitVec 32 := BitVec.ofNat 32 (i 0).val
  let c25_i32 : BitVec 32 := 25#32
  let v0 : BitVec 32 := Scalar.subi arg0 c25_i32
  let c0_i32_4 : BitVec 32 := 0#32
  let v13 : BitVec 1 := Scalar.cmpi .sgt v0 c0_i32_4
  let v14 : BitVec 32 := Scalar.extui v13
  let c0_i32_5 : BitVec 32 := 0#32
  let v15 : BitVec 1 := Scalar.cmpi .slt v0 c0_i32_5
  let v16 : BitVec 32 := Scalar.extui v15
  let v17 : BitVec 32 := Scalar.subi v14 v16
  let c12_i32 : BitVec 32 := 12#32
  let c0_i32_6 : BitVec 32 := 0#32
  let v18 : BitVec 1 := Scalar.cmpi .sgt c12_i32 c0_i32_6
  let v19 : BitVec 32 := Scalar.extui v18
  let c0_i32_7 : BitVec 32 := 0#32
  let v20 : BitVec 1 := Scalar.cmpi .slt c12_i32 c0_i32_7
  let v21 : BitVec 32 := Scalar.extui v20
  let v22 : BitVec 32 := Scalar.subi v19 v21
  let v23 : BitVec 1 := Scalar.cmpi .ne v17 v22
  let v24 : BitVec 32 := Scalar.remsi v0 c12_i32
  let c0_i32_8 : BitVec 32 := 0#32
  let v25 : BitVec 1 := Scalar.cmpi .ne v24 c0_i32_8
  let v26 : BitVec 1 := Scalar.andi v23 v25
  let v12 : BitVec 32 := Scalar.divsi v0 c12_i32
  let c1_i32 : BitVec 32 := 1#32
  let v27 : BitVec 32 := Scalar.subi v12 c1_i32
  let v28 : BitVec 32 := Scalar.select v26 v27 v12
  let c2_i32_20 : BitVec 32 := 2#32
  let v52 : BitVec 32 := Scalar.minsi v28 c2_i32_20
  let v53 : BitVec 32 := Scalar.subi v0 v52
  let c400_i32 : BitVec 32 := 400#32
  let v56 : BitVec 32 := Scalar.muli v53 c400_i32
  let v57 : Index := Scalar.indexCast v56
  let c0_23 : Index := 0#32
  ![v57.toNat, 0]
def k0_off8 (i : grid0.Coords) : Fin 2 → Nat :=
  let arg0 : BitVec 32 := BitVec.ofNat 32 (i 0).val
  let c25_i32 : BitVec 32 := 25#32
  let v0 : BitVec 32 := Scalar.subi arg0 c25_i32
  let c0_i32_4 : BitVec 32 := 0#32
  let v13 : BitVec 1 := Scalar.cmpi .sgt v0 c0_i32_4
  let v14 : BitVec 32 := Scalar.extui v13
  let c0_i32_5 : BitVec 32 := 0#32
  let v15 : BitVec 1 := Scalar.cmpi .slt v0 c0_i32_5
  let v16 : BitVec 32 := Scalar.extui v15
  let v17 : BitVec 32 := Scalar.subi v14 v16
  let c12_i32 : BitVec 32 := 12#32
  let c0_i32_6 : BitVec 32 := 0#32
  let v18 : BitVec 1 := Scalar.cmpi .sgt c12_i32 c0_i32_6
  let v19 : BitVec 32 := Scalar.extui v18
  let c0_i32_7 : BitVec 32 := 0#32
  let v20 : BitVec 1 := Scalar.cmpi .slt c12_i32 c0_i32_7
  let v21 : BitVec 32 := Scalar.extui v20
  let v22 : BitVec 32 := Scalar.subi v19 v21
  let v23 : BitVec 1 := Scalar.cmpi .ne v17 v22
  let v24 : BitVec 32 := Scalar.remsi v0 c12_i32
  let c0_i32_8 : BitVec 32 := 0#32
  let v25 : BitVec 1 := Scalar.cmpi .ne v24 c0_i32_8
  let v26 : BitVec 1 := Scalar.andi v23 v25
  let v12 : BitVec 32 := Scalar.divsi v0 c12_i32
  let c1_i32 : BitVec 32 := 1#32
  let v27 : BitVec 32 := Scalar.subi v12 c1_i32
  let v28 : BitVec 32 := Scalar.select v26 v27 v12
  let c2_i32_20 : BitVec 32 := 2#32
  let v52 : BitVec 32 := Scalar.minsi v28 c2_i32_20
  let v53 : BitVec 32 := Scalar.subi v0 v52
  let c400_i32 : BitVec 32 := 400#32
  let v56 : BitVec 32 := Scalar.muli v53 c400_i32
  let v59 : Index := Scalar.indexCast v56
  let c0_24 : Index := 0#32
  ![v59.toNat, 0]
def k0_cond3 (i : grid0.Coords) : BitVec 1 :=
  let arg0 : BitVec 32 := BitVec.ofNat 32 (i 0).val
  let c24_i32_2 : BitVec 32 := 24#32
  let v9 : BitVec 1 := Scalar.cmpi .eq arg0 c24_i32_2
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c25_i32 : BitVec 32 := 25#32
  let v0 : BitVec 32 := Scalar.subi arg0 c25_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c11_i32 : BitVec 32 := 11#32
  let v28 : BitVec 1 := Scalar.cmpi .eq v27 c11_i32
  let c2_i32 : BitVec 32 := 2#32
  let v29 : BitVec 1 := Scalar.cmpi .slt v17 c2_i32
  let v30 : BitVec 1 := Scalar.andi v28 v29
  let c2_i32_10 : BitVec 32 := 2#32
  let v31 : BitVec 32 := Scalar.minsi v17 c2_i32_10
  let v32 : BitVec 32 := Scalar.subi v0 v31
  let c1_i32_11 : BitVec 32 := 1#32
  let v33 : BitVec 32 := Scalar.subi v0 c1_i32_11
  let c1_i32_12 : BitVec 32 := 1#32
  let v34 : BitVec 32 := Scalar.subi v0 c1_i32_12
  let c12_i32_13 : BitVec 32 := 12#32
  let v35 : BitVec 32 := Scalar.divsi v34 c12_i32_13
  let c0_i32_14 : BitVec 32 := 0#32
  let v36 : BitVec 1 := Scalar.cmpi .sgt v34 c0_i32_14
  let v37 : BitVec 32 := Scalar.extui v36
  let c0_i32_15 : BitVec 32 := 0#32
  let v38 : BitVec 1 := Scalar.cmpi .slt v34 c0_i32_15
  let v39 : BitVec 32 := Scalar.extui v38
  let v40 : BitVec 32 := Scalar.subi v37 v39
  let c0_i32_16 : BitVec 32 := 0#32
  let v41 : BitVec 1 := Scalar.cmpi .sgt c12_i32_13 c0_i32_16
  let v42 : BitVec 32 := Scalar.extui v41
  let c0_i32_17 : BitVec 32 := 0#32
  let v43 : BitVec 1 := Scalar.cmpi .slt c12_i32_13 c0_i32_17
  let v44 : BitVec 32 := Scalar.extui v43
  let v45 : BitVec 32 := Scalar.subi v42 v44
  let v46 : BitVec 1 := Scalar.cmpi .ne v40 v45
  let v47 : BitVec 32 := Scalar.remsi v34 c12_i32_13
  let c0_i32_18 : BitVec 32 := 0#32
  let v48 : BitVec 1 := Scalar.cmpi .ne v47 c0_i32_18
  let v49 : BitVec 1 := Scalar.andi v46 v48
  let c1_i32_19 : BitVec 32 := 1#32
  let v50 : BitVec 32 := Scalar.subi v35 c1_i32_19
  let v51 : BitVec 32 := Scalar.select v49 v50 v35
  let c2_i32_20 : BitVec 32 := 2#32
  let v52 : BitVec 32 := Scalar.minsi v51 c2_i32_20
  let v53 : BitVec 32 := Scalar.subi v33 v52
  let v54 : BitVec 32 := Scalar.select v30 v53 v32
  let c25_i32_21 : BitVec 32 := 25#32
  let v55 : BitVec 1 := Scalar.cmpi .slt arg0 c25_i32_21
  let v56 : BitVec 32 := Scalar.select v55 arg0 v54
  let c0_i32_22 : BitVec 32 := 0#32
  let c0_i32_23 : BitVec 32 := 0#32
  ![v56.toNat, c0_i32_22.toNat]

def cc0_transform_4 (i : grid0.Coords) : Fin 2 → Nat :=
  let arg0 : BitVec 32 := BitVec.ofNat 32 (i 0).val
  let c25_i32 : BitVec 32 := 25#32
  let v0 : BitVec 32 := Scalar.subi arg0 c25_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c11_i32 : BitVec 32 := 11#32
  let v28 : BitVec 1 := Scalar.cmpi .eq v27 c11_i32
  let c2_i32 : BitVec 32 := 2#32
  let v29 : BitVec 1 := Scalar.cmpi .slt v17 c2_i32
  let v30 : BitVec 1 := Scalar.andi v28 v29
  let c22_i32 : BitVec 32 := 22#32
  let v31 : BitVec 32 := Scalar.addi c22_i32 v17
  let c2_i32_10 : BitVec 32 := 2#32
  let v32 : BitVec 32 := Scalar.minsi v17 c2_i32_10
  let v33 : BitVec 32 := Scalar.subi v0 v32
  let v34 : BitVec 32 := Scalar.select v30 v31 v33
  let c25_i32_11 : BitVec 32 := 25#32
  let v35 : BitVec 1 := Scalar.cmpi .slt arg0 c25_i32_11
  let c24_i32 : BitVec 32 := 24#32
  let v36 : BitVec 32 := Scalar.select v35 c24_i32 v34
  let c0_i32_12 : BitVec 32 := 0#32
  let c0_i32_13 : BitVec 32 := 0#32
  ![v36.toNat, c0_i32_12.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S10000x128 : Shape := ⟨2, ![10000, 128]⟩
abbrev S10000x10000 : Shape := ⟨2, ![10000, 10000]⟩
abbrev S1 : Shape := ⟨1, ![1]⟩
abbrev S128x128 : Shape := ⟨2, ![128, 128]⟩
abbrev S128 : Shape := ⟨1, ![128]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S10000x10000, .i32⟩
  | .hbm, ⟨6, _⟩ => ⟨S10000x10000, .i32⟩
  | .hbm, ⟨7, _⟩ => ⟨S_, .i32⟩
  | .hbm, ⟨8, _⟩ => ⟨S10000x10000, .i32⟩
  | .hbm, ⟨9, _⟩ => ⟨S10000x10000, .i32⟩
  | .hbm, ⟨10, _⟩ => ⟨S10000x10000, .i1⟩
  | .hbm, ⟨11, _⟩ => ⟨S10000x10000, .f32⟩
  | .hbm, ⟨12, _⟩ => ⟨S10000x10000, .f32⟩
  | .hbm, ⟨13, _⟩ => ⟨S_, .f32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S_, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000x10000, .f32⟩
  | .hbm, ⟨28, _⟩ => ⟨S10000x10000, .f32⟩
  | .hbm, ⟨29, _⟩ => ⟨S1x10000, .f32⟩
  | .hbm, ⟨30, _⟩ => ⟨S10000x10000, .f32⟩
  | .hbm, ⟨31, _⟩ => ⟨S10000x10000, .f32⟩
  | .hbm, ⟨32, _⟩ => ⟨S10000x128, .f32⟩
  | .hbm, ⟨33, _⟩ => ⟨S10000x128, .f32⟩
  | .hbm, ⟨34, _⟩ => ⟨S1x128, .f32⟩
  | .hbm, ⟨35, _⟩ => ⟨S10000x128, .f32⟩
  | .hbm, ⟨36, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_v10 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Proof.Hand.Own.lean ====
/-
  Loads and stores through a memref owned at contents `X`, as what they do to `X`: a load reads `X` on the rectangle,
  a store lays the stored block over `X` there. Everything the kernel's body does is one of the two, so the body's
  runs (`Body*.lean`) are stated over contents alone and never mention a buffer's own elements.
-/
module

public import Idealize.ShloMosaic.Lib.Pipeline.FrameBody
public import Idealize.ShloMosaic.Lib.Memref
public import Idealize.ShloMosaic.Lib.Tactic

@[expose] public section

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Rules

variable {nD : Nat} {τ : Topo} {sig : RefSig} {Ix : Type} [DecidableEq Ix]
variable {Val : EltTy → Type} {Name : Type} [DecidableEq Name] {U : Type} [URA U] {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load through a rectangle of a memref owned at `X` continues at `X` read on the rectangle. -/
theorem load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    owns c m q X
      ⊢ iprop((owns c m q X -∗ wp frame (wpE defs 𝒱 c bd) E (k (fun j => X (r.emb j))) Q)
        -∗ wp frame (wpE defs 𝒱 c bd) E (.op (.load m r.toLoadRect hl) k) Q) := by
  unfold owns
  iintro ⟨%f, %hf, H⟩ Hk
  iapply (wp_load_rect 𝒱 c bd E (m := m) (r := r) (m.view.set_slice_subset r)) $$ H
  iintro H
  have hr : (m.access r).read Val f = fun j => X (r.emb j) := by rw [← hf]; rfl
  rw [hr]
  iapply Hk
  iexists f
  isplitr
  · ipureintro; exact hf
  iexact H

/-- A store of a whole block through a rectangle of a memref owned at `X` leaves the block laid over `X` there. -/
theorem store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    owns c m fullShare X
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (Q := Q) (w := w) (hx := hx) (hm := hm) (k := k) (Mk := Finset.univ) (f := f)
    (m.setOn_access_subset r Finset.univ)) $$ H
  iintro H
  iapply Hk
  iexists _
  isplitr
  swap
  · iexact H
  ipureintro
  funext j
  by_cases hj : j ∈ r.set
  · obtain ⟨i, rfl⟩ := r.exists_idx_of_mem hj
    change m.view.read Val _ (r.emb i) = r.overlay X w (r.emb i)
    rw [Rect.overlay_emb]
    exact View.read_slice_write_emb r f w (Finset.mem_univ i)
  · rw [Rect.overlay_of_not_mem _ _ _ hj, ← hf]
    exact View.read_slice_write_of_not_mem r f w Finset.univ (by rwa [Rect.map_emb_univ])

end Rules

/-- The whole-shape rectangle places each index at itself. -/
theorem emb_full {s : Shape} {off : Fin s.rank → ℕ} (inb : ∀ a, off a + s.size a ≤ s.size a) (j : s.Idx) :
    (Rect.unit off s.size inb).emb j = j := by
  funext a; apply Fin.ext
  rw [Rect.emb_apply]
  show off a + 1 * (j a).val = (j a).val
  have := inb a
  omega

/-- The whole-shape rectangle reads contents as they are. -/
theorem read_full {s : Shape} {α : Type} {off : Fin s.rank → ℕ} (inb : ∀ a, off a + s.size a ≤ s.size a) (X : s.Idx → α) :
    (fun j => X ((Rect.unit off s.size inb).emb j)) = X :=
  funext fun j => congrArg X (emb_full inb j)

/-- A block laid over the whole shape leaves the block alone. -/
theorem overlay_full {s : Shape} {α : Type} {off : Fin s.rank → ℕ} (inb : ∀ a, off a + s.size a ≤ s.size a) (X G : s.Idx → α) :
    (Rect.unit off s.size inb).overlay X G = G := by
  funext j
  have h := Rect.overlay_emb (Rect.unit off s.size inb) X G j
  rwa [emb_full inb j] at h

end Cert.Hand

end
-- ==== Proof.HandK.Frame.lean ====
/-
  The frame of the launch: the program runs to its end, its five arguments are as they were, and every semaphore
  reads zero.
-/
module

public import proofs.«01_k».proof.Proof.HandK.Run
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.SL.Sem

variable {F : FTy → Type} [FloatOps F]

theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (Gen.frame_of m ρ (dats m) (fun _ _ => rfl)) (run_main m ρ)

end Cert.Kernel.Hand

end
-- ==== Proof.HandI.Body.lean ====
/-
  The kernel's body at one grid point, by cases on which of its five conditional stretches run. Memrefs are arbitrary
  and whole; the inputs are owned at `X1` (features), `X2` (weights), `X3` (bias), `X4` (adjacency rows), the output at
  `Y`, the carried scratch at `nd` (degrees, then their scaling), `hp` (projected features, then scaled) and `kp`
  (adjacency rows kept in the narrow format). Each theorem says what the point leaves in the output and the scratch.
-/
module

public import proofs.«01_k».proof.Proof.Hand.Own
public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hand

variable {F : FTy → Type} [FloatOps F]

local notation "𝕄" => MT nD τ sig Unit (Elt F) ℕ (UR sig nD τ) ℕ

/-- The rows a point works on: the contents of a tall array from row `off 0` on, 400 of them. -/
abbrev rows1 (off : Fin 2 → ℕ) (inb : ∀ a, off a + S400x1.size a ≤ S10000x1.size a) : Rect S10000x1 :=
  Rect.unit (s := S10000x1) off S400x1.size inb
abbrev rows128 (off : Fin 2 → ℕ) (inb : ∀ a, off a + S400x128.size a ≤ S10000x128.size a) : Rect S10000x128 :=
  Rect.unit (s := S10000x128) off S400x128.size inb
/-- One slot of the kept adjacency rows. -/
abbrev slot (off : Fin 3 → ℕ) (inb : ∀ a, off a + S1x400x10000.size a ≤ S2x400x10000.size a) : Rect S2x400x10000 :=
  Rect.unit (s := S2x400x10000) off S1x400x10000.size inb

section Run

variable (c : Dev nD) (i : grid0.Coords)
  (arg1 : Memref sig .tc .vmem S400x128 .f32) (harg1 : arg1.IsWhole)
  (arg2 : Memref sig .tc .vmem S128x128 .f32) (harg2 : arg2.IsWhole)
  (arg3 : Memref sig .tc .vmem S1x128 .f32) (harg3 : arg3.IsWhole)
  (arg4 : Memref sig .tc .vmem S400x10000 .f32) (harg4 : arg4.IsWhole)
  (arg5 : Memref sig .tc .vmem S400x128 .f32) (harg5 : arg5.IsWhole)
  (arg6 : Memref sig .tc .vmem S10000x1 .f32) (harg6 : arg6.IsWhole)
  (arg7 : Memref sig .tc .vmem S10000x128 .f32) (harg7 : arg7.IsWhole)
  (arg8 : Memref sig .tc .vmem S2x400x10000 .bf16) (harg8 : arg8.IsWhole)

/-- What the body holds: the four inputs, the output and the three scratch arrays, at given contents. -/
def held (X1 : Vec F S400x128 .f32) (X2 : Vec F S128x128 .f32) (X3 : Vec F S1x128 .f32) (X4 : Vec F S400x10000 .f32)
    (Y : Vec F S400x128 .f32) (nd : Vec F S10000x1 .f32) (hp : Vec F S10000x128 .f32) (kp : Vec F S2x400x10000 .bf16) : sProp 𝕄 :=
  iprop(owns (c : Thread nD τ) arg1 fullShare X1 ∗ owns (c : Thread nD τ) arg2 fullShare X2
    ∗ owns (c : Thread nD τ) arg3 fullShare X3 ∗ owns (c : Thread nD τ) arg4 fullShare X4
    ∗ owns (c : Thread nD τ) arg5 fullShare Y ∗ owns (c : Thread nD τ) arg6 fullShare nd
    ∗ owns (c : Thread nD τ) arg7 fullShare hp ∗ owns (c : Thread nD τ) arg8 fullShare kp)

variable (X1 : Vec F S400x128 .f32) (X2 : Vec F S128x128 .f32) (X3 : Vec F S1x128 .f32) (X4 : Vec F S400x10000 .f32)
  (Y : Vec F S400x128 .f32) (nd : Vec F S10000x1 .f32) (hp : Vec F S10000x128 .f32) (kp : Vec F S2x400x10000 .bf16)

/-- A point of the first pass that keeps nothing: its block of degrees and of projected features. -/
theorem run_pass1 (h1 : k0_cond1 i = 1#1) (h2 : ¬k0_cond2 i = 1#1) (h3 : ¬k0_cond3 i = 1#1)
    (h4 : ¬k0_cond4 i = 1#1) (h5 : ¬k0_cond5 i = 1#1)
    (Q : sProp 𝕄) :
    iprop(held c arg1 arg2 arg3 arg4 arg5 arg6 arg7 arg8 X1 X2 X3 X4 Y nd hp kp
      ∗ (held c arg1 arg2 arg3 arg4 arg5 arg6 arg7 arg8 X1 X2 X3 X4 Y ((rows1 (k0_off1 i) (k0_off1_inb i h1)).overlay nd (k0_pay3 X4))
          ((rows128 (k0_off2 i) (k0_off2_inb i h1)).overlay hp (k0_pay4 X1 X2)) kp -∗ Q))
      ⊢ wp frame (wpE (defs₀ (F := F)) Variants.none (c : Thread nD τ) none) Set.univ
          (cc0__fused_kernel i arg1 harg1 arg2 harg2 arg3 harg3 arg4 harg4 arg5 harg5 arg6 harg6 arg7 harg7 arg8 harg8)
          (fun _ => Q) := by
  rw [cc0__fused_kernel_eq_skeleton]
  unfold cc0__fused_kernel_skel
  simp only [k0_part1_eq_skeleton]
  unfold k0_part1_skel
  simp only [dif_pos h1, dif_neg h2, dif_neg h3, dif_neg h4, dif_neg h5, Prog.lift, Prog.bind_op, Prog.bind_ret, Prog.pure_eq_ret]
  unfold held
  iintro ⟨⟨H1, H2, H3, H4, H5, H6, H7, H8⟩, Hk⟩
  iapply (load_owns Variants.none (c : Thread nD τ) none Set.univ) $$ H4; iintro H4
  iapply (load_owns Variants.none (c : Thread nD τ) none Set.univ) $$ H6; iintro H6
  iapply (store_owns Variants.none (c : Thread nD τ) none Set.univ) $$ H6; iintro H6
  iapply (load_owns Variants.none (c : Thread nD τ) none Set.univ) $$ H1; iintro H1
  iapply (load_owns Variants.none (c : Thread nD τ) none Set.univ) $$ H2; iintro H2
  iapply (load_owns Variants.none (c : Thread nD τ) none Set.univ) $$ H7; iintro H7
  iapply (store_owns Variants.none (c : Thread nD τ) none Set.univ) $$ H7; iintro H7
  rw [wp_ret]; imodintro
  iapply Hk
  rw [read_full, read_full, read_full]
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A point of the first pass that also keeps its adjacency rows. -/
theorem run_keep (h1 : k0_cond1 i = 1#1) (h2 : k0_cond2 i = 1#1) (h3 : ¬k0_cond3 i = 1#1)
    (h4 : ¬k0_cond4 i = 1#1) (h5 : ¬k0_cond5 i = 1#1)
    (Q : sProp 𝕄) :
    iprop(held c arg1 arg2 arg3 arg4 arg5 arg6 arg7 arg8 X1 X2 X3 X4 Y nd hp kp
      ∗ (held c arg1 arg2 arg3 arg4 arg5 arg6 arg7 arg8 X1 X2 X3 X4 Y ((rows1 (k0_off1 i) (k0_off1_inb i h1)).overlay nd (k0_pay3 X4))
          ((rows128 (k0_off2 i) (k0_off2_inb i h1)).overlay hp (k0_pay4 X1 X2))
          ((slot (k0_off3 i) (k0_off3_inb i h2)).overlay kp (k0_pay5 X4)) -∗ Q))
      ⊢ wp frame (wpE (defs₀ (F := F)) Variants.none (c : Thread nD τ) none) Set.univ
          (cc0__fused_kernel i arg1 harg1 arg2 harg2 arg3 harg3 arg4 harg4 arg5 harg5 arg6 harg6 arg7 harg7 arg8 harg8)
          (fun _ => Q) := by
  rw [cc0__fused_kernel_eq_skeleton]
  unfold cc0__fused_kernel_skel
  simp only [k0_part1_eq_skeleton]
  unfold k0_part1_skel
  simp only [dif_pos h1, dif_pos h2, dif_neg h3, dif_neg h4, dif_neg h5, Prog.lift, Prog.bind_op, Prog.bind_ret, Prog.pure_eq_ret]
  unfold held
  iintro ⟨⟨H1, H2, H3, H4, H5, H6, H7, H8⟩, Hk⟩
  iapply (load_owns Variants.none (c : Thread nD τ) none Set.univ) $$ H4; iintro H4
  iapply (load_owns Variants.none (c : Thread nD τ) none Set.univ) $$ H6; iintro H6
  iapply (store_owns Variants.none (c : Thread nD τ) none Set.univ) $$ H6; iintro H6
  iapply (load_owns Variants.none (c : Thread nD τ) none Set.univ) $$ H1; iintro H1
  iapply (load_owns Variants.none (c : Thread nD τ) none Set.univ) $$ H2; iintro H2
  iapply (load_owns Variants.none (c : Thread nD τ) none Set.univ) $$ H7; iintro H7
  iapply (store_owns Variants.none (c : Thread nD τ) none Set.univ) $$ H7; iintro H7
  iapply (load_owns Variants.none (c : Thread nD τ) none Set.univ) $$ H4; iintro H4
  iapply (load_owns Variants.none (c : Thread nD τ) none Set.univ) $$ H8; iintro H8
  iapply (store_owns Variants.none (c : Thread nD τ) none Set.univ) $$ H8; iintro H8
  rw [wp_ret]; imodintro
  iapply Hk
  rw [read_full, read_full, read_full]
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The last point of the first pass: after its own block it scales the degrees and the projected features whole, and
already emits its own block of rows. `nd'` and `hp'` are the two arrays once that block is in. -/
theorem run_turn (h1 : k0_cond1 i = 1#1) (h2 : ¬k0_cond2 i = 1#1) (h3 : k0_cond3 i = 1#1)
    (h4 : ¬k0_cond4 i = 1#1) (h5 : ¬k0_cond5 i = 1#1)
    (nd' : Vec F S10000x1 .f32) (hp' : Vec F S10000x128 .f32)
    (e6 : (rows1 (k0_off1 i) (k0_off1_inb i h1)).overlay nd (k0_pay3 X4) = nd')
    (e7 : (rows128 (k0_off2 i) (k0_off2_inb i h1)).overlay hp (k0_pay4 X1 X2) = hp')
    (Q : sProp 𝕄) :
    iprop(held c arg1 arg2 arg3 arg4 arg5 arg6 arg7 arg8 X1 X2 X3 X4 Y nd hp kp
      ∗ (held c arg1 arg2 arg3 arg4 arg5 arg6 arg7 arg8 X1 X2 X3 X4
          (k0_pay9 X4 (k0_pay8 nd' hp')
            (fun j => k0_pay7 nd' ((rows1 ![9600, 0] inb_S10000x1_S400x1_9600_0).emb j))
            (fun j => k0_pay8 nd' hp' ((rows128 ![9600, 0] inb_S10000x128_S400x128_9600_0).emb j)) X3)
          (k0_pay7 nd') (k0_pay8 nd' hp') kp -∗ Q))
      ⊢ wp frame (wpE (defs₀ (F := F)) Variants.none (c : Thread nD τ) none) Set.univ
          (cc0__fused_kernel i arg1 harg1 arg2 harg2 arg3 harg3 arg4 harg4 arg5 harg5 arg6 harg6 arg7 harg7 arg8 harg8)
          (fun _ => Q) := by
  rw [cc0__fused_kernel_eq_skeleton]
  unfold cc0__fused_kernel_skel
  simp only [k0_part1_eq_skeleton]
  unfold k0_part1_skel
  simp only [dif_pos h1, dif_neg h2, dif_pos h3, dif_neg h4, dif_neg h5, Prog.lift, Prog.bind_op, Prog.bind_ret, Prog.pure_eq_ret]
  unfold held
  iintro ⟨⟨H1, H2, H3, H4, H5, H6, H7, H8⟩, Hk⟩
  iapply (load_owns Variants.none (c : Thread nD τ) none Set.univ) $$ H4; iintro H4
  iapply (load_owns Variants.none (c : Thread nD τ) none Set.univ) $$ H6; iintro H6
  iapply (store_owns Variants.none (c : Thread nD τ) none Set.univ) $$ H6; iintro H6
  iapply (load_owns Variants.none (c : Thread nD τ) none Set.univ) $$ H1; iintro H1
  iapply (load_owns Variants.none (c : Thread nD τ) none Set.univ) $$ H2; iintro H2
  iapply (load_owns Variants.none (c : Thread nD τ) none Set.univ) $$ H7; iintro H7
  iapply (store_owns Variants.none (c : Thread nD τ) none Set.univ) $$ H7; iintro H7
  rw [read_full, read_full, read_full, e6, e7]
  iapply (load_owns Variants.none (c : Thread nD τ) none Set.univ) $$ H6; iintro H6
  iapply (load_owns Variants.none (c : Thread nD τ) none Set.univ) $$ H6; iintro H6
  iapply (store_owns Variants.none (c : Thread nD τ) none Set.univ) $$ H6; iintro H6
  rw [overlay_full, read_full]
  iapply (load_owns Variants.none (c : Thread nD τ) none Set.univ) $$ H7; iintro H7
  iapply (load_owns Variants.none (c : Thread nD τ) none Set.univ) $$ H7; iintro H7
  iapply (store_owns Variants.none (c : Thread nD τ) none Set.univ) $$ H7; iintro H7
  rw [overlay_full, read_full]
  iapply (load_owns Variants.none (c : Thread nD τ) none Set.univ) $$ H4; iintro H4
  iapply (load_owns Variants.none (c : Thread nD τ) none Set.univ) $$ H7; iintro H7
  iapply (load_owns Variants.none (c : Thread nD τ) none Set.univ) $$ H6; iintro H6
  iapply (load_owns Variants.none (c : Thread nD τ) none Set.univ) $$ H7; iintro H7
  iapply (load_owns Variants.none (c : Thread nD τ) none Set.univ) $$ H3; iintro H3
  iapply (load_owns Variants.none (c : Thread nD τ) none Set.univ) $$ H5; iintro H5
  iapply (store_owns Variants.none (c : Thread nD τ) none Set.univ) $$ H5; iintro H5
  rw [wp_ret]; imodintro
  iapply Hk
  rw [overlay_full, read_full, read_full, read_full]
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A point of the second pass that emits a block from the rows it kept. -/
theorem run_kept (h1 : ¬k0_cond1 i = 1#1) (h2 : ¬k0_cond2 i = 1#1) (h3 : ¬k0_cond3 i = 1#1)
    (h4 : k0_cond4 i = 1#1) (h5 : ¬k0_cond5 i = 1#1)
    (Q : sProp 𝕄) :
    iprop(held c arg1 arg2 arg3 arg4 arg5 arg6 arg7 arg8 X1 X2 X3 X4 Y nd hp kp
      ∗ (held c arg1 arg2 arg3 arg4 arg5 arg6 arg7 arg8 X1 X2 X3 X4
          (k0_pay1 (fun j => kp ((slot (k0_off4 i) (k0_off4_inb i h4)).emb j)) hp
            (fun j => nd ((rows1 (k0_off5 i) (k0_off5_inb i h4)).emb j))
            (fun j => hp ((rows128 (k0_off6 i) (k0_off6_inb i h4)).emb j)) X3)
          nd hp kp -∗ Q))
      ⊢ wp frame (wpE (defs₀ (F := F)) Variants.none (c : Thread nD τ) none) Set.univ
          (cc0__fused_kernel i arg1 harg1 arg2 harg2 arg3 harg3 arg4 harg4 arg5 harg5 arg6 harg6 arg7 harg7 arg8 harg8)
          (fun _ => Q) := by
  rw [cc0__fused_kernel_eq_skeleton]
  unfold cc0__fused_kernel_skel
  simp only [k0_part1_eq_skeleton]
  unfold k0_part1_skel
  simp only [dif_neg h1, dif_neg h2, dif_neg h3, dif_pos h4, dif_neg h5, Prog.lift, Prog.bind_op, Prog.bind_ret, Prog.pure_eq_ret]
  unfold held
  iintro ⟨⟨H1, H2, H3, H4, H5, H6, H7, H8⟩, Hk⟩
  iapply (load_owns Variants.none (c : Thread nD τ) none Set.univ) $$ H8; iintro H8
  iapply (load_owns Variants.none (c : Thread nD τ) none Set.univ) $$ H7; iintro H7
  iapply (load_owns Variants.none (c : Thread nD τ) none Set.univ) $$ H6; iintro H6
  iapply (load_owns Variants.none (c : Thread nD τ) none Set.univ) $$ H7; iintro H7
  iapply (load_owns Variants.none (c : Thread nD τ) none Set.univ) $$ H3; iintro H3
  iapply (load_owns Variants.none (c : Thread nD τ) none Set.univ) $$ H5; iintro H5
  iapply (store_owns Variants.none (c : Thread nD τ) none Set.univ) $$ H5; iintro H5
  rw [wp_ret]; imodintro
  iapply Hk
  rw [overlay_full, read_full, read_full]
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A point of the second pass that emits a block from rows fetched again. -/
theorem run_fresh (h1 : ¬k0_cond1 i = 1#1) (h2 : ¬k0_cond2 i = 1#1) (h3 : ¬k0_cond3 i = 1#1)
    (h4 : ¬k0_cond4 i = 1#1) (h5 : k0_cond5 i = 1#1)
    (Q : sProp 𝕄) :
    iprop(held c arg1 arg2 arg3 arg4 arg5 arg6 arg7 arg8 X1 X2 X3 X4 Y nd hp kp
      ∗ (held c arg1 arg2 arg3 arg4 arg5 arg6 arg7 arg8 X1 X2 X3 X4
          (k0_pay2 X4 hp
            (fun j => nd ((rows1 (k0_off7 i) (k0_off7_inb i h5)).emb j))
            (fun j => hp ((rows128 (k0_off8 i) (k0_off8_inb i h5)).emb j)) X3)
          nd hp kp -∗ Q))
      ⊢ wp frame (wpE (defs₀ (F := F)) Variants.none (c : Thread nD τ) none) Set.univ
          (cc0__fused_kernel i arg1 harg1 arg2 harg2 arg3 harg3 arg4 harg4 arg5 harg5 arg6 harg6 arg7 harg7 arg8 harg8)
          (fun _ => Q) := by
  rw [cc0__fused_kernel_eq_skeleton]
  unfold cc0__fused_kernel_skel
  simp only [k0_part1_eq_skeleton]
  unfold k0_part1_skel
  simp only [dif_neg h1, dif_neg h2, dif_neg h3, dif_neg h4, dif_pos h5, Prog.lift, Prog.bind_op, Prog.bind_ret, Prog.pure_eq_ret]
  unfold held
  iintro ⟨⟨H1, H2, H3, H4, H5, H6, H7, H8⟩, Hk⟩
  iapply (load_owns Variants.none (c : Thread nD τ) none Set.univ) $$ H4; iintro H4
  iapply (load_owns Variants.none (c : Thread nD τ) none Set.univ) $$ H7; iintro H7
  iapply (load_owns Variants.none (c : Thread nD τ) none Set.univ) $$ H6; iintro H6
  iapply (load_owns Variants.none (c : Thread nD τ) none Set.univ) $$ H7; iintro H7
  iapply (load_owns Variants.none (c : Thread nD τ) none Set.univ) $$ H3; iintro H3
  iapply (load_owns Variants.none (c : Thread nD τ) none Set.univ) $$ H5; iintro H5
  iapply (store_owns Variants.none (c : Thread nD τ) none Set.univ) $$ H5; iintro H5
  rw [wp_ret]; imodintro
  iapply Hk
  rw [overlay_full, read_full, read_full, read_full]
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Run

end Cert.KernelIdeal.Hand

end
-- ==== Proof.HandI.Sched.lean ====
/-
  The schedule in closed form: which of the body's conditional stretches run at a grid point, the rows they name, the
  blocks the windows hold there, and when the output is written back. The first pass is the points below 25, one block
  of rows each; point 24 also emits block 24; the points from 25 on emit the other blocks, the two kept ones (22 at
  point 36, 23 at point 48) among them.
-/
module

public import proofs.«01_k».proof.Proof.Gen.KernelIdeal.Launch
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe

/-- The block of rows emitted at a point from 24 on. -/
def outBlk (n : ℕ) : ℕ := if n ≤ 24 then 24 else if n = 36 then 22 else if n = 48 then 23 else if n < 36 then n - 25 else n - 26

/-- The block of adjacency rows the body sees at a point that reads it. -/
def adjBlkNo (n : ℕ) : ℕ := if n ≤ 24 then n else if n = 36 then 10 else if n = 48 then 21 else if n < 36 then n - 25 else n - 26

theorem cond1_iff : ∀ t : Fin grid0.N, k0_cond1 (grid0.coords t) = 1#1 ↔ t.val < 25 := by decide +kernel
theorem cond2_iff : ∀ t : Fin grid0.N, k0_cond2 (grid0.coords t) = 1#1 ↔ (t.val = 22 ∨ t.val = 23) := by decide +kernel
theorem cond3_iff : ∀ t : Fin grid0.N, k0_cond3 (grid0.coords t) = 1#1 ↔ t.val = 24 := by decide +kernel
theorem cond4_iff : ∀ t : Fin grid0.N, k0_cond4 (grid0.coords t) = 1#1 ↔ (t.val = 36 ∨ t.val = 48) := by decide +kernel
theorem cond5_iff : ∀ t : Fin grid0.N, k0_cond5 (grid0.coords t) = 1#1 ↔ (24 < t.val ∧ t.val ≠ 36 ∧ t.val ≠ 48) := by decide +kernel

theorem coords0 : ∀ t : Fin grid0.N, (grid0.coords t 0).val = t.val := by decide +kernel
theorem off1_at (t : Fin grid0.N) : k0_off1 (grid0.coords t) = ![400 * t.val, 0] := by rw [k0_off1_eq, coords0]
theorem off2_at (t : Fin grid0.N) : k0_off2 (grid0.coords t) = ![400 * t.val, 0] := by rw [k0_off2_eq, coords0]
theorem off3_at : ∀ t : Fin grid0.N, (t.val = 22 ∨ t.val = 23) → k0_off3 (grid0.coords t) = ![t.val - 22, 0, 0] := by decide +kernel
theorem off4_at : ∀ t : Fin grid0.N, (t.val = 36 ∨ t.val = 48) → k0_off4 (grid0.coords t) = ![t.val / 12 - 3, 0, 0] := by decide +kernel
theorem off5_at : ∀ t : Fin grid0.N, (t.val = 36 ∨ t.val = 48) → k0_off5 (grid0.coords t) = ![400 * outBlk t.val, 0] := by decide +kernel
theorem off6_at : ∀ t : Fin grid0.N, (t.val = 36 ∨ t.val = 48) → k0_off6 (grid0.coords t) = ![400 * outBlk t.val, 0] := by decide +kernel
theorem off7_at : ∀ t : Fin grid0.N, (24 < t.val ∧ t.val ≠ 36 ∧ t.val ≠ 48) → k0_off7 (grid0.coords t) = ![400 * outBlk t.val, 0] := by decide +kernel
theorem off8_at : ∀ t : Fin grid0.N, (24 < t.val ∧ t.val ≠ 36 ∧ t.val ≠ 48) → k0_off8 (grid0.coords t) = ![400 * outBlk t.val, 0] := by decide +kernel

theorem index0_at : ∀ t : Fin grid0.N, win0_0.index t = ![min t.val 24, 0] := by decide +kernel
theorem index1_at : ∀ t : Fin grid0.N, win0_1.index t = ![0, 0] := by decide +kernel
theorem index2_at : ∀ t : Fin grid0.N, win0_2.index t = ![0, 0] := by decide +kernel
theorem index3_at : ∀ t : Fin grid0.N, win0_3.index t = ![adjBlkNo t.val, 0] := by decide +kernel
theorem index4_at : ∀ t : Fin grid0.N, win0_4.index t = ![outBlk t.val, 0] := by decide +kernel

theorem flush4_iff : ∀ t : Fin grid0.N, win0_4.flush t = true ↔ 24 ≤ t.val := by decide +kernel
theorem idle4_iff : ∀ t : Fin grid0.N, idle0 4 (grid0.coords t) = true ↔ t.val < 24 := by decide +kernel

theorem outBlk_lt : ∀ t : Fin grid0.N, outBlk t.val < 25 := by decide +kernel
theorem adjBlkNo_lt : ∀ t : Fin grid0.N, adjBlkNo t.val < 25 := by decide +kernel

/-- Every block of rows is emitted at some point. -/
theorem outBlk_cover : ∀ k : Fin 25, ∃ t : Fin grid0.N, 24 ≤ t.val ∧ outBlk t.val = k.val := by decide +kernel

end Cert.KernelIdeal.Hand

end
-- ==== Proof.HandI.Inv.lean ====
/-
  What the scratch arrays hold between grid points, stated from the argument arrays. During the first pass the rows
  reached so far hold the row sums plus one and the projected features; after its last point they hold the scaling
  and the scaled features whole. Two blocks of adjacency rows are kept in the narrow format once passed.
-/
module

public import proofs.«01_k».proof.Proof.HandI.Body
public import proofs.«01_k».proof.Proof.HandI.Sched
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-! ## Blocks of 400 rows -/

/-- Row `j` of block `k`. -/
def rowOf (k : Fin 25) (j : Fin 400) : Fin 10000 := ⟨400 * k.val + j.val, by omega⟩
/-- The block a row lies in, and its place there. -/
def blkOf (r : Fin 10000) : Fin 25 := ⟨r.val / 400, by omega⟩
def posOf (r : Fin 10000) : Fin 400 := ⟨r.val % 400, by omega⟩

theorem blkOf_rowOf (k : Fin 25) (j : Fin 400) : blkOf (rowOf k j) = k := Fin.ext (by simp only [blkOf, rowOf]; omega)
theorem posOf_rowOf (k : Fin 25) (j : Fin 400) : posOf (rowOf k j) = j := Fin.ext (by simp only [posOf, rowOf]; omega)
theorem rowOf_blkOf (r : Fin 10000) : rowOf (blkOf r) (posOf r) = r := Fin.ext (by simp only [blkOf, posOf, rowOf]; omega)

/-- Block `k` of an array of 10000 rows. -/
def rowsAt {n : ℕ} {α : Type} (X : (⟨2, ![10000, n]⟩ : Shape).Idx → α) (k : Fin 25) : (⟨2, ![400, n]⟩ : Shape).Idx → α :=
  fun j => X (ix2 (rowOf k (j 0)) (j 1))
/-- The array of 10000 rows whose block `k` is `f k`. -/
def ofRows {n : ℕ} {α : Type} (f : Fin 25 → (⟨2, ![400, n]⟩ : Shape).Idx → α) : (⟨2, ![10000, n]⟩ : Shape).Idx → α :=
  fun i => f (blkOf (i 0)) (ix2 (posOf (i 0)) (i 1))

theorem ofRows_ix2 {n : ℕ} {α : Type} (f : Fin 25 → (⟨2, ![400, n]⟩ : Shape).Idx → α) (k : Fin 25)
    (j : (⟨2, ![400, n]⟩ : Shape).Idx) : ofRows f (ix2 (rowOf k (j 0)) (j 1)) = f k j := by
  obtain ⟨a, b, rfl⟩ : ∃ a b, j = ix2 a b := ⟨j 0, j 1, eq_ix2 j⟩
  show f (blkOf (rowOf k a)) (ix2 (posOf (rowOf k a)) b) = f k (ix2 a b)
  rw [blkOf_rowOf, posOf_rowOf]

theorem rowsAt_ofRows {n : ℕ} {α : Type} (f : Fin 25 → (⟨2, ![400, n]⟩ : Shape).Idx → α) (k : Fin 25) :
    rowsAt (ofRows f) k = f k := funext fun j => ofRows_ix2 f k j

/-- A rectangle of 400 whole rows from row `400 k` on places row `j` at row `j` of block `k`. -/
theorem emb_rows {n : ℕ} (off : Fin 2 → ℕ) (inb : ∀ a, off a + (⟨2, ![400, n]⟩ : Shape).size a ≤ (⟨2, ![10000, n]⟩ : Shape).size a)
    (k : Fin 25) (hoff : off = ![400 * k.val, 0]) (j : (⟨2, ![400, n]⟩ : Shape).Idx) :
    (Rect.unit (s := ⟨2, ![10000, n]⟩) off (⟨2, ![400, n]⟩ : Shape).size inb).emb j = ix2 (rowOf k (j 0)) (j 1) := by
  subst hoff
  funext a
  refine Fin.ext ?_
  match a with
  | ⟨0, _⟩ => show 400 * k.val + 1 * (j 0).val = 400 * k.val + (j 0).val; omega
  | ⟨1, _⟩ => show 0 + 1 * (j 1).val = (j 1).val; omega

/-- Reading that rectangle of an array is its block `k`. -/
theorem read_rows {n : ℕ} {α : Type} (off : Fin 2 → ℕ) (inb : ∀ a, off a + (⟨2, ![400, n]⟩ : Shape).size a ≤ (⟨2, ![10000, n]⟩ : Shape).size a)
    (k : Fin 25) (hoff : off = ![400 * k.val, 0]) (X : (⟨2, ![10000, n]⟩ : Shape).Idx → α) :
    (fun j => X ((Rect.unit (s := ⟨2, ![10000, n]⟩) off (⟨2, ![400, n]⟩ : Shape).size inb).emb j)) = rowsAt X k :=
  funext fun j => by rw [emb_rows off inb k hoff]; rfl

/-- An array that agrees with `f`'s blocks below block `k`, block `k` overlaid, agrees with them through block `k`. -/
theorem overlay_rows {n : ℕ} {α : Type} (off : Fin 2 → ℕ) (inb : ∀ a, off a + (⟨2, ![400, n]⟩ : Shape).size a ≤ (⟨2, ![10000, n]⟩ : Shape).size a)
    (k : Fin 25) (hoff : off = ![400 * k.val, 0]) (f : Fin 25 → (⟨2, ![400, n]⟩ : Shape).Idx → α)
    (X : (⟨2, ![10000, n]⟩ : Shape).Idx → α) (hX : ∀ i, (i 0).val < 400 * k.val → X i = ofRows f i) :
    ∀ i, (i 0).val < 400 * (k.val + 1) →
      (Rect.unit (s := ⟨2, ![10000, n]⟩) off (⟨2, ![400, n]⟩ : Shape).size inb).overlay X (f k) i = ofRows f i := by
  intro i hi
  by_cases hm : i ∈ (Rect.unit (s := ⟨2, ![10000, n]⟩) off (⟨2, ![400, n]⟩ : Shape).size inb).set
  · obtain ⟨j, hj⟩ := LoadRect.exists_idx_of_mem _ hm
    have hj' : (Rect.unit (s := ⟨2, ![10000, n]⟩) off (⟨2, ![400, n]⟩ : Shape).size inb).emb j = i := hj
    rw [← hj', Rect.overlay_emb, emb_rows off inb k hoff]
    exact (ofRows_ix2 f k j).symm
  · rw [Rect.overlay_of_not_mem _ _ _ hm]
    refine hX i ?_
    by_contra hge
    apply hm
    rw [Rect.mem_set_unit]
    subst hoff
    intro a
    match a with
    | ⟨0, _⟩ => exact ⟨by show 400 * k.val ≤ (i 0).val; omega, by show (i 0).val < 400 * k.val + 400; omega⟩
    | ⟨1, _⟩ => exact ⟨Nat.zero_le _, by show (i 1).val < 0 + n; have : (i 1).val < n := (i 1).isLt; omega⟩

/-- Two offsets of one value give one slot. -/
theorem emb_slot (off : Fin 3 → ℕ) (inb) (off' : Fin 3 → ℕ) (inb') (h : off = off') (j : S1x400x10000.Idx) :
    (slot off inb).emb j = (slot off' inb').emb j := by subst h; rfl

theorem inb_slot (q : Fin 2) : ∀ a, (![q.val, 0, 0] : Fin 3 → ℕ) a + S1x400x10000.size a ≤ S2x400x10000.size a := by
  revert q; decide

/-- Slot `q` of the kept rows. -/
abbrev slotq (q : Fin 2) : Rect S2x400x10000 := slot ![q.val, 0, 0] (inb_slot q)

/-- A write to one slot leaves the other. -/
theorem slot_disj (q q' : Fin 2) (h : q ≠ q') (j : (slotq q).shape.Idx) : (slotq q).emb j ∉ (slotq q').set := by
  rw [Rect.mem_set_unit]
  intro hm
  have h0 := hm 0
  have hj : (j 0).val < 1 := (j 0).isLt
  have e : ((slotq q).emb j 0 : ℕ) = q.val + 1 * (j 0).val := rfl
  have hlo : q'.val ≤ ((slotq q).emb j 0 : ℕ) := h0.1
  have hhi : ((slotq q).emb j 0 : ℕ) < q'.val + 1 := h0.2
  exact h (Fin.ext (by omega))

/-! ## The arrays the two passes compute -/

variable (X : Vec F S10000x128 .f32) (A : Vec F S10000x10000 .f32) (W : Vec F S128x128 .f32) (B : Vec F S1x128 .f32)

/-- The degrees: each row's sum, and one for the node itself. -/
def degA : Vec F S10000x1 .f32 := ofRows fun k => k0_pay3 (rowsAt A k)
/-- The projected features. -/
def projA : Vec F S10000x128 .f32 := ofRows fun k => k0_pay4 (rowsAt X k) W
/-- The scaling of a node. -/
def disA : Vec F S10000x1 .f32 := k0_pay7 (degA A)
/-- The projected features, scaled. -/
def hpA : Vec F S10000x128 .f32 := k0_pay8 (degA A) (projA X W)
/-- Block `k` of the kept rows. -/
def keptA (k : Fin 25) : Vec F S1x400x10000 .bf16 := k0_pay5 (rowsAt A k)

/-- Block `k` of the result, as the point that emits it computes it. -/
def emitA (k : Fin 25) : Vec F S400x128 .f32 :=
  if k.val = 24 then k0_pay9 (rowsAt A k) (hpA X A W) (rowsAt (disA A) k) (rowsAt (hpA X A W) k) B
  else if 22 ≤ k.val then k0_pay1 (keptA A k) (hpA X A W) (rowsAt (disA A) k) (rowsAt (hpA X A W) k) B
  else k0_pay2 (rowsAt A k) (hpA X A W) (rowsAt (disA A) k) (rowsAt (hpA X A W) k) B

/-- What the scratch holds before point `n`. -/
structure Held (n : ℕ) (nd : Vec F S10000x1 .f32) (hp : Vec F S10000x128 .f32) (kp : Vec F S2x400x10000 .bf16) : Prop where
  nd_lt : n ≤ 24 → ∀ i : S10000x1.Idx, (i 0).val < 400 * n → nd i = degA A i
  hp_lt : n ≤ 24 → ∀ i : S10000x128.Idx, (i 0).val < 400 * n → hp i = projA X W i
  nd_ge : 24 < n → nd = disA A
  hp_ge : 24 < n → hp = hpA X A W
  kp_0 : 22 < n → (fun j => kp ((slotq 0).emb j)) = keptA A 22
  kp_1 : 23 < n → (fun j => kp ((slotq 1).emb j)) = keptA A 23

variable {X A W}

/-- Before the first point nothing is asked. -/
theorem held_zero (nd hp kp) : Held (F := F) X A W 0 nd hp kp :=
  ⟨fun _ i h => absurd h (by omega), fun _ i h => absurd h (by omega), fun h => absurd h (by omega), fun h => absurd h (by omega),
    fun h => absurd h (by omega), fun h => absurd h (by omega)⟩

/-- A point of the first pass that keeps nothing. -/
theorem Held.pass1 {n : ℕ} {nd hp kp} (h : Held (F := F) X A W n nd hp kp) (hn : n < 22) (k : Fin 25) (hk : k.val = n)
    {off1 inb1} (h1 : off1 = ![400 * n, 0]) {off2 inb2} (h2 : off2 = ![400 * n, 0]) :
    Held X A W (n + 1) ((rows1 off1 inb1).overlay nd (k0_pay3 (rowsAt A k))) ((rows128 off2 inb2).overlay hp (k0_pay4 (rowsAt X k) W)) kp := by
  subst hk
  exact ⟨fun _ => overlay_rows off1 inb1 k h1 (fun k => k0_pay3 (rowsAt A k)) nd (h.nd_lt (by omega)),
    fun _ => overlay_rows off2 inb2 k h2 (fun k => k0_pay4 (rowsAt X k) W) hp (h.hp_lt (by omega)),
    fun h => absurd h (by omega), fun h => absurd h (by omega), fun h => absurd h (by omega), fun h => absurd h (by omega)⟩

/-- A point of the first pass that keeps its rows. -/
theorem Held.keep {n : ℕ} {nd hp kp} (h : Held (F := F) X A W n nd hp kp) (hn : n = 22 ∨ n = 23) (k : Fin 25) (hk : k.val = n)
    {off1 inb1} (h1 : off1 = ![400 * n, 0]) {off2 inb2} (h2 : off2 = ![400 * n, 0]) {off3 inb3} (h3 : off3 = ![n - 22, 0, 0]) :
    Held X A W (n + 1) ((rows1 off1 inb1).overlay nd (k0_pay3 (rowsAt A k))) ((rows128 off2 inb2).overlay hp (k0_pay4 (rowsAt X k) W))
      ((slot off3 inb3).overlay kp (k0_pay5 (rowsAt A k))) := by
  subst hk
  refine ⟨fun _ => overlay_rows off1 inb1 k h1 (fun k => k0_pay3 (rowsAt A k)) nd (h.nd_lt (by omega)),
    fun _ => overlay_rows off2 inb2 k h2 (fun k => k0_pay4 (rowsAt X k) W) hp (h.hp_lt (by omega)),
    fun h => absurd h (by omega), fun h => absurd h (by omega), fun _ => ?_, fun hlt => ?_⟩
  · rcases hn with hn | hn
    · have hk : k = 22 := Fin.ext hn
      subst hk
      subst h3
      funext j
      exact Rect.overlay_emb (slotq 0) kp _ j
    · have hk : k = 23 := Fin.ext hn
      subst hk
      subst h3
      rw [← h.kp_0 (by decide)]
      funext j
      exact Rect.overlay_of_not_mem (r := slotq 1) _ _ (slot_disj 0 1 (by decide) j)
  · have hk : k = 23 := Fin.ext (show k.val = 23 by omega)
    subst hk
    subst h3
    funext j
    exact Rect.overlay_emb (slotq 1) kp _ j

/-- At the last point of the first pass the degrees and the projected features are whole. -/
theorem Held.whole1 {nd hp kp} (h : Held (F := F) X A W 24 nd hp kp) {off1 inb1} (h1 : off1 = ![400 * 24, 0]) :
    (rows1 off1 inb1).overlay nd (k0_pay3 (rowsAt A 24)) = degA A :=
  funext fun i => overlay_rows off1 inb1 24 h1 (fun k => k0_pay3 (rowsAt A k)) nd (h.nd_lt (by omega)) i
    (by have : (i 0).val < 10000 := (i 0).isLt; show (i 0).val < 400 * (24 + 1); omega)
theorem Held.whole2 {nd hp kp} (h : Held (F := F) X A W 24 nd hp kp) {off2 inb2} (h2 : off2 = ![400 * 24, 0]) :
    (rows128 off2 inb2).overlay hp (k0_pay4 (rowsAt X 24) W) = projA X W :=
  funext fun i => overlay_rows off2 inb2 24 h2 (fun k => k0_pay4 (rowsAt X k) W) hp (h.hp_lt (by omega)) i
    (by have : (i 0).val < 10000 := (i 0).isLt; show (i 0).val < 400 * (24 + 1); omega)

/-- It leaves them scaled. -/
theorem Held.turn {nd hp kp} (h : Held (F := F) X A W 24 nd hp kp) : Held X A W 25 (k0_pay7 (degA A)) (k0_pay8 (degA A) (projA X W)) kp :=
  ⟨fun h => absurd h (by omega), fun h => absurd h (by omega), fun _ => rfl, fun _ => rfl, fun _ => h.kp_0 (by omega), fun _ => h.kp_1 (by omega)⟩

/-- The second pass changes nothing in the scratch. -/
theorem Held.pass2 {n : ℕ} {nd hp kp} (h : Held (F := F) X A W n nd hp kp) (hn : 24 < n) : Held X A W (n + 1) nd hp kp :=
  ⟨fun h => absurd h (by omega), fun h => absurd h (by omega), fun _ => h.nd_ge hn, fun _ => h.hp_ge hn, fun _ => h.kp_0 (by omega), fun _ => h.kp_1 (by omega)⟩

end Cert.KernelIdeal.Hand

end
-- ==== Proof.HandI.Point.lean ====
/-
  One grid point: the blocks its windows hold are blocks of the argument arrays, and from scratch arrays as `Held`
  describes them before the point the body leaves them as described after it, the output untouched before point 24 and
  at the emitted block from there on.
-/
module

public import proofs.«01_k».proof.Proof.HandI.Inv
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (c : Dev nD)

/-- The arrays the region finds: the features, the adjacency matrix, the weights and the bias as one row. -/
abbrev Xc : Vec F S10000x128 .f32 := V m c main_arg0
abbrev Ac : Vec F S10000x10000 .f32 := V m c main_arg1
abbrev Wc : Vec F S128x128 .f32 := V m c main_arg3
abbrev Bc : Vec F S1x128 .f32 := V m c main_v0

/-! ## The windows' blocks -/

theorem min24_lt (t : Fin grid0.N) : min t.val 24 < 25 := by omega

theorem iblk0_eq (t : Fin grid0.N) : iblk m c 0 t = rowsAt (Xc m c) ⟨min t.val 24, min24_lt t⟩ := by
  funext j
  show Xc m c ((win0_0.rect t).emb j) = _
  refine congrArg (Xc m c) (funext fun a => Fin.ext ?_)
  rw [win0_0.rect_emb_val t j a, index0_at t]
  match a with
  | ⟨0, _⟩ => show min t.val 24 * 400 + (j 0).val = 400 * min t.val 24 + (j 0).val; omega
  | ⟨1, _⟩ => show 0 * 128 + (j 1).val = (j 1).val; omega

theorem iblk1_eq (t : Fin grid0.N) : iblk m c 1 t = Wc m c := by
  funext j
  show Wc m c ((win0_1.rect t).emb j) = _
  refine congrArg (Wc m c) (funext fun a => Fin.ext ?_)
  rw [win0_1.rect_emb_val t j a, index1_at t]
  match a with
  | ⟨0, _⟩ => show 0 * 128 + (j 0).val = (j 0).val; omega
  | ⟨1, _⟩ => show 0 * 128 + (j 1).val = (j 1).val; omega

theorem iblk2_eq (t : Fin grid0.N) : iblk m c 2 t = Bc m c := by
  funext j
  show Bc m c ((win0_2.rect t).emb j) = _
  refine congrArg (Bc m c) (funext fun a => Fin.ext ?_)
  rw [win0_2.rect_emb_val t j a, index2_at t]
  match a with
  | ⟨0, _⟩ => show 0 * 1 + (j 0).val = (j 0).val; omega
  | ⟨1, _⟩ => show 0 * 128 + (j 1).val = (j 1).val; omega

theorem iblk3_eq (t : Fin grid0.N) : iblk m c 3 t = rowsAt (Ac m c) ⟨adjBlkNo t.val, adjBlkNo_lt t⟩ := by
  funext j
  show Ac m c ((win0_3.rect t).emb j) = _
  refine congrArg (Ac m c) (funext fun a => Fin.ext ?_)
  rw [win0_3.rect_emb_val t j a, index3_at t]
  match a with
  | ⟨0, _⟩ => show adjBlkNo t.val * 400 + (j 0).val = 400 * adjBlkNo t.val + (j 0).val; omega
  | ⟨1, _⟩ => show 0 * 10000 + (j 1).val = (j 1).val; omega

/-- The features' block in the first pass. -/
theorem iblk0_pass1 (t : Fin grid0.N) (k : Fin 25) (hk : k.val = t.val) : iblk m c 0 t = rowsAt (Xc m c) k := by
  rw [iblk0_eq, show (⟨min t.val 24, min24_lt t⟩ : Fin 25) = k from Fin.ext (by show min t.val 24 = k.val; omega)]
/-- The adjacency rows' block in the first pass. -/
theorem iblk3_pass1 (t : Fin grid0.N) (k : Fin 25) (hk : k.val = t.val) : iblk m c 3 t = rowsAt (Ac m c) k := by
  rw [iblk3_eq, show (⟨adjBlkNo t.val, adjBlkNo_lt t⟩ : Fin 25) = k from Fin.ext (by
    have := k.isLt; show adjBlkNo t.val = k.val; unfold adjBlkNo; rw [if_pos (by omega)]; omega)]
/-- And where the second pass reads them. -/
theorem iblk3_pass2 (t : Fin grid0.N) (ht : 24 < t.val ∧ t.val ≠ 36 ∧ t.val ≠ 48) :
    iblk m c 3 t = rowsAt (Ac m c) ⟨outBlk t.val, outBlk_lt t⟩ := by
  rw [iblk3_eq, show (⟨adjBlkNo t.val, adjBlkNo_lt t⟩ : Fin 25) = ⟨outBlk t.val, outBlk_lt t⟩ from Fin.ext (by
    show adjBlkNo t.val = outBlk t.val; unfold adjBlkNo outBlk
    rw [if_neg (show ¬t.val ≤ 24 by omega), if_neg ht.2.1, if_neg ht.2.2, if_neg (show ¬t.val ≤ 24 by omega), if_neg ht.2.1, if_neg ht.2.2])]

/-! ## The point -/

/-- A function of five arguments at equal arguments. -/
theorem congr5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

/-- The block a point leaves in the output's buffer. -/
def outAt (t : Fin grid0.N) : Vec F S400x128 .f32 := emitA (Xc m c) (Ac m c) (Wc m c) (Bc m c) ⟨outBlk t.val, outBlk_lt t⟩

/-- What the body holds at a point. -/
abbrev heldAt (t : Fin cfg0.N) (Y : Vec F S400x128 .f32) (nd : Vec F S10000x1 .f32) (hp : Vec F S10000x128 .f32)
    (kp : Vec F S2x400x10000 .bf16) : sProp 𝕄 :=
  held c (st0_0 t) (st0_1 t) (st0_2 t) (st0_3 t) (st0_4 t) (Memref.whole cc0_scratch0) (Memref.whole cc0_scratch1)
    (Memref.whole cc0_scratch2) (iblk m c 0 t) (iblk m c 1 t) (iblk m c 2 t) (iblk m c 3 t) Y nd hp kp

theorem point (t : Fin cfg0.N) (Y : Vec F S400x128 .f32) (nd : Vec F S10000x1 .f32) (hp : Vec F S10000x128 .f32)
    (kp : Vec F S2x400x10000 .bf16) (hH : Held (Xc m c) (Ac m c) (Wc m c) t.val nd hp kp) (Q : sProp 𝕄) :
    iprop(heldAt m c t Y nd hp kp
      ∗ (∀ Y' nd' hp' kp', ⌜Held (Xc m c) (Ac m c) (Wc m c) (t.val + 1) nd' hp' kp' ∧ (t.val < 24 → Y' = Y) ∧ (24 ≤ t.val → Y' = outAt m c t)⌝
          -∗ heldAt m c t Y' nd' hp' kp' -∗ Q))
      ⊢ wp frame (wpE (defs₀ (F := F)) Variants.none (c : Thread nD τ) none) Set.univ (bodyAt0 t) (fun _ => Q) := by
  have hN : t.val < 49 := by have h := t.isLt; have e : cfg0.N = 49 := N_0; omega
  have k1 := cond1_iff t; have k2 := cond2_iff t; have k3 := cond3_iff t; have k4 := cond4_iff t; have k5 := cond5_iff t
  rcases Nat.lt_or_ge t.val 22 with hlt | hge
  · -- the first pass, nothing kept
    have h1 := k1.2 (by omega)
    iintro ⟨H, Hk⟩
    iapply (run_pass1 c (grid0.coords t) _ _ _ _ _ _ _ _ _ _ _ _ _ _ _ _ (iblk m c 0 t) (iblk m c 1 t) (iblk m c 2 t) (iblk m c 3 t) Y nd hp kp
      h1 (mt k2.1 (by omega)) (mt k3.1 (by omega)) (mt k4.1 (by omega)) (mt k5.1 (by omega)) Q)
    isplitl [H]; · iexact H
    iintro H
    iapply Hk $$ [] H
    ipureintro
    refine ⟨?_, fun _ => rfl, fun h => absurd h (by omega)⟩
    rw [iblk3_pass1 m c t ⟨t.val, by omega⟩ rfl, iblk0_pass1 m c t ⟨t.val, by omega⟩ rfl, iblk1_eq]
    exact hH.pass1 hlt ⟨t.val, by omega⟩ rfl (off1_at t) (off2_at t)
  rcases Nat.lt_or_ge t.val 24 with hlt | hge
  · -- the first pass, the rows kept
    have hq : t.val = 22 ∨ t.val = 23 := by omega
    have h1 := k1.2 (by omega)
    iintro ⟨H, Hk⟩
    iapply (run_keep c (grid0.coords t) _ _ _ _ _ _ _ _ _ _ _ _ _ _ _ _ (iblk m c 0 t) (iblk m c 1 t) (iblk m c 2 t) (iblk m c 3 t) Y nd hp kp
      h1 (k2.2 hq) (mt k3.1 (by omega)) (mt k4.1 (by omega)) (mt k5.1 (by omega)) Q)
    isplitl [H]; · iexact H
    iintro H
    iapply Hk $$ [] H
    ipureintro
    refine ⟨?_, fun _ => rfl, fun h => absurd h (by omega)⟩
    rw [iblk3_pass1 m c t ⟨t.val, by omega⟩ rfl, iblk0_pass1 m c t ⟨t.val, by omega⟩ rfl, iblk1_eq]
    exact hH.keep hq ⟨t.val, by omega⟩ rfl (off1_at t) (off2_at t) (off3_at t hq)
  rcases Nat.lt_or_ge t.val 25 with hlt | hge
  · -- the turn
    have ht : t.val = 24 := by omega
    have h1 := k1.2 (by omega)
    rw [ht] at hH
    have e3 := iblk3_pass1 m c t 24 ht.symm
    have e0 := iblk0_pass1 m c t 24 ht.symm
    have w1 : (rows1 (k0_off1 (grid0.coords t)) (k0_off1_inb (grid0.coords t) h1)).overlay nd (k0_pay3 (iblk m c 3 t)) = degA (Ac m c) := by
      rw [e3]; exact hH.whole1 (by rw [off1_at, ht])
    have w2 : (rows128 (k0_off2 (grid0.coords t)) (k0_off2_inb (grid0.coords t) h1)).overlay hp (k0_pay4 (iblk m c 0 t) (iblk m c 1 t))
        = projA (Xc m c) (Wc m c) := by
      rw [e0, iblk1_eq]; exact hH.whole2 (by rw [off2_at, ht])
    iintro ⟨H, Hk⟩
    iapply (run_turn c (grid0.coords t) _ _ _ _ _ _ _ _ _ _ _ _ _ _ _ _ (iblk m c 0 t) (iblk m c 1 t) (iblk m c 2 t) (iblk m c 3 t) Y nd hp kp
      h1 (mt k2.1 (by omega)) (k3.2 ht) (mt k4.1 (by omega)) (mt k5.1 (by omega)) _ _ w1 w2 Q)
    isplitl [H]; · iexact H
    iintro H
    iapply Hk $$ [] H
    ipureintro
    refine ⟨?_, fun h => absurd h (by omega), fun _ => ?_⟩
    · rw [ht]; exact hH.turn
    · have hk : (⟨outBlk t.val, outBlk_lt t⟩ : Fin 25) = 24 := Fin.ext (by show outBlk t.val = 24; unfold outBlk; rw [if_pos (by omega)])
      unfold outAt emitA
      rw [hk, if_pos (by rfl)]
      exact congr5 k0_pay9 e3 rfl (read_rows _ _ 24 rfl (disA (Ac m c))) (read_rows _ _ 24 rfl (hpA (Xc m c) (Ac m c) (Wc m c))) (iblk2_eq m c t)
  -- the second pass
  have hnd := hH.nd_ge (by omega)
  have hhp := hH.hp_ge (by omega)
  by_cases hq : t.val = 36 ∨ t.val = 48
  · -- from the rows kept
    have h4 := k4.2 hq
    iintro ⟨H, Hk⟩
    iapply (run_kept c (grid0.coords t) _ _ _ _ _ _ _ _ _ _ _ _ _ _ _ _ (iblk m c 0 t) (iblk m c 1 t) (iblk m c 2 t) (iblk m c 3 t) Y nd hp kp
      (mt k1.1 (by omega)) (mt k2.1 (by omega)) (mt k3.1 (by omega)) h4 (mt k5.1 (by omega)) Q)
    isplitl [H]; · iexact H
    iintro H
    iapply Hk $$ [] H
    ipureintro
    refine ⟨hH.pass2 (by omega), fun h => absurd h (by omega), fun _ => ?_⟩
    have hkept : (fun j => kp ((slot (k0_off4 (grid0.coords t)) (k0_off4_inb (grid0.coords t) h4)).emb j))
        = keptA (Ac m c) ⟨outBlk t.val, outBlk_lt t⟩ := by
      rcases hq with hq | hq
      · rw [show (⟨outBlk t.val, outBlk_lt t⟩ : Fin 25) = 22 from Fin.ext (by show outBlk t.val = 22; rw [hq]; rfl), ← hH.kp_0 (by omega)]
        exact funext fun j => congrArg kp (emb_slot _ _ _ _ ((off4_at t (.inl hq)).trans (by rw [hq]; rfl)) j)
      · rw [show (⟨outBlk t.val, outBlk_lt t⟩ : Fin 25) = 23 from Fin.ext (by show outBlk t.val = 23; rw [hq]; rfl), ← hH.kp_1 (by omega)]
        exact funext fun j => congrArg kp (emb_slot _ _ _ _ ((off4_at t (.inr hq)).trans (by rw [hq]; rfl)) j)
    have hb : outBlk t.val = 22 ∨ outBlk t.val = 23 := by rcases hq with hq | hq <;> rw [hq] <;> decide
    unfold outAt emitA
    rw [if_neg (by show ¬outBlk t.val = 24; omega), if_pos (by show 22 ≤ outBlk t.val; omega), ← hnd, ← hhp]
    exact congr5 k0_pay1 hkept rfl (read_rows _ _ ⟨outBlk t.val, outBlk_lt t⟩ (off5_at t hq) nd)
      (read_rows _ _ ⟨outBlk t.val, outBlk_lt t⟩ (off6_at t hq) hp) (iblk2_eq m c t)
  · -- from rows fetched again
    have hr : 24 < t.val ∧ t.val ≠ 36 ∧ t.val ≠ 48 := by omega
    have h5 := k5.2 hr
    iintro ⟨H, Hk⟩
    iapply (run_fresh c (grid0.coords t) _ _ _ _ _ _ _ _ _ _ _ _ _ _ _ _ (iblk m c 0 t) (iblk m c 1 t) (iblk m c 2 t) (iblk m c 3 t) Y nd hp kp
      (mt k1.1 (by omega)) (mt k2.1 (by omega)) (mt k3.1 (by omega)) (mt k4.1 (by omega)) h5 Q)
    isplitl [H]; · iexact H
    iintro H
    iapply Hk $$ [] H
    ipureintro
    refine ⟨hH.pass2 (by omega), fun h => absurd h (by omega), fun _ => ?_⟩
    have hb : outBlk t.val < 22 := by
      unfold outBlk; rw [if_neg (by omega), if_neg (by omega), if_neg (by omega)]; split <;> omega
    unfold outAt emitA
    rw [if_neg (by show ¬outBlk t.val = 24; omega), if_neg (by show ¬22 ≤ outBlk t.val; omega), ← hnd, ← hhp]
    exact congr5 k0_pay2 (iblk3_pass2 m c t hr) rfl (read_rows _ _ ⟨outBlk t.val, outBlk_lt t⟩ (off7_at t hr) nd)
      (read_rows _ _ ⟨outBlk t.val, outBlk_lt t⟩ (off8_at t hr) hp) (iblk2_eq m c t)

end Cert.KernelIdeal.Hand

end
-- ==== Proof.HandI.Run.lean ====
/-
  The launch: the pipeline's proof data, the body obligation from the one-point theorem, and the run of @main, after
  which every array a window stages holds what the pipeline wrote back and every other array is as launched.
-/
module

public import proofs.«01_k».proof.Proof.HandI.Point
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Between points: the scratch arrays as `Held` says, the generator register at something. -/
def inv (c : Dev nD) (n : ℕ) : sProp 𝕄 :=
  iprop(∃ nd hp kp, ⌜Held (Xc m c) (Ac m c) (Wc m c) n nd hp kp⌝
    ∗ (owns (c : Thread nD τ) (Memref.whole cc0_scratch0) fullShare nd
      ∗ owns (c : Thread nD τ) (Memref.whole cc0_scratch1) fullShare hp
      ∗ owns (c : Thread nD τ) (Memref.whole cc0_scratch2) fullShare kp)
    ∗ ∃ r, prngReg c r)

/-- The proof data: the arrays as the region finds them; each input's buffer left at its block, the output's at the
    emitted block; the scratch's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val
  q _ := fullShare
  owed _ := 0

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d

/-- What is asked of the output's buffer after a point: before point 24 what it held, from there on the emitted block. -/
theorem leaves4 (c : Dev nD) (t : Fin cfg0.N) (d) (Y : Vec F S400x128 .f32) (h1 : t.val < 24 → Y = (dats m 0 c).before 4 t d)
    (h2 : 24 ≤ t.val → Y = outAt m c t) :
    owns (c : Thread nD τ) (st0_4 t) fullShare Y ⊢ ((dats m 0 c).leavesExact 4 t : sProp 𝕄) := by
  rcases Nat.lt_or_ge t.val 24 with hlt | hge
  · rw [(dats m 0 c).leavesExact_idle 4 t ((idle4_iff t).2 hlt)
      (by rw [Bool.eq_false_iff]; exact fun h => absurd ((flush4_iff t).1 h) (by omega)), h1 hlt]
    iintro H; iexists d; iexact H
  · have hi : cfg0.idle 4 (cfg0.grid.coords t) = false := by
      rw [Bool.eq_false_iff]; exact fun h => absurd ((idle4_iff t).1 h) (by omega)
    unfold Dat.leavesExact
    rw [hi, h2 hge]
    exact .rfl

/-- The body obligation. -/
theorem body_obligation (c : Dev nD) : BodyObligation (dats m 0 c) (defs₀ (F := F)) Variants.none () Set.univ := fun t => by
  rw [bigSep_W0, bigSep_W0]
  show iprop(inv m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none (c : Thread nD τ) none) Set.univ (bodyAt0 t) (fun _ =>
        iprop(inv m c (t.val + 1) ∗ (dats m 0 c).owesAt () t.castSucc
          ∗ owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ (dats m 0 c).leavesExact 4 t))
  simp only [before0, before1, before2, before3]
  unfold inv
  iintro ⟨⟨%nd, %hp, %kp, %hH, ⟨S0, S1, S2⟩, Hg⟩, Howes, ⟨%d0, H0⟩, ⟨%d1, H1⟩, ⟨%d2, H2⟩, ⟨%d3, H3⟩, ⟨%d4, H4⟩⟩
  iapply (point m c t ((dats m 0 c).before 4 t d4) nd hp kp hH _)
  isplitl [H0 H1 H2 H3 H4 S0 S1 S2]
  · unfold heldAt held
    isplitl [H0]; · iexact H0
    isplitl [H1]; · iexact H1
    isplitl [H2]; · iexact H2
    isplitl [H3]; · iexact H3
    isplitl [H4]; · iexact H4
    isplitl [S0]; · iexact S0
    isplitl [S1]; · iexact S1
    iexact S2
  iintro %Y' %nd' %hp' %kp' %hp
  obtain ⟨hH', hlt, hge⟩ := hp
  unfold heldAt held
  iintro ⟨H0, H1, H2, H3, H4, S0, S1, S2⟩
  isplitl [S0 S1 S2 Hg]
  · iexists nd'; iexists hp'; iexists kp'
    isplitr; · ipureintro; exact hH'
    isplitl [S0 S1 S2]
    · isplitl [S0]; · iexact S0
      isplitl [S1]; · iexact S1
      iexact S2
    · iexact Hg
  isplitl [Howes]; · iexact Howes
  isplitl [H0]; · iexact H0
  isplitl [H1]; · iexact H1
  isplitl [H2]; · iexact H2
  isplitl [H3]; · iexact H3
  iapply (leaves4 m c t d4 Y' hlt hge); iexact H4

/-- At the region's entry the scratch holds anything. -/
theorem inv_in (c : Dev nD) : Pipeline.ΦA (Val := Elt F) spec0 c ⊢ inv m c 0 := by
  unfold Pipeline.ΦA inv
  rw [scopedRest0_eq]
  simp only [owns_whole]
  iintro ⟨⟨⟨%f0, S0⟩, ⟨%f1, S1⟩, ⟨%f2, S2⟩⟩, Hg⟩
  iexists f0; iexists f1; iexists f2
  isplitr; · ipureintro; exact held_zero f0 f1 f2
  isplitl [S0 S1 S2]
  · isplitl [S0]; · iexact S0
    isplitl [S1]; · iexact S1
    iexact S2
  · iexact Hg

/-- At its exit what the scratch holds is forgotten. -/
theorem inv_out (c : Dev nD) (n : ℕ) : inv m c n ⊢ Pipeline.ΦA (Val := Elt F) spec0 c := by
  unfold Pipeline.ΦA inv
  rw [scopedRest0_eq]
  simp only [owns_whole]
  iintro ⟨%nd, %hp, %kp, -, ⟨S0, S1, S2⟩, Hg⟩
  isplitl [S0 S1 S2]
  · isplitl [S0]; · iexists nd; iexact S0
    isplitl [S1]; · iexists hp; iexact S1
    iexists kp; iexact S2
  · iexact Hg

set_option backward.isDefEq.respectTransparency.types false in
/-- The run of @main: every staged array ends at what the pipeline wrote back, every other as launched, every
    counter at zero. -/
theorem run_main : θ_run defs (onTc (τ := τ) (main (F := F))) (s₀ m ρ)
    (fun r => Pipeline.FramePost cfgs (dats m) 0 (V m) r ∧ r.2.sem = (fun _ => 0)) :=
  Pipeline.θ_run_frame_track cfgs (dats m) 0 launch0 defs₀ Variants.none m ρ main
    (fun c => (body_obligation m c).loose) (fun c w => by unfold Dat.share; split <;> rfl) (fun _ _ => rfl) (V m)
    (hmain m Variants.none) (fun _ _ => rfl) (fun c => inv_in m c) (fun c => inv_out m c _) _ (fun _ h => h)

end Cert.KernelIdeal.Hand

end
-- ==== Proof.HandI.Frame.lean ====
/-
  The frame of the launch: the program runs to its end, its five arguments are as they were, and every semaphore
  reads zero.
-/
module

public import proofs.«01_k».proof.Proof.HandI.Run
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (Gen.frame_of m ρ (dats m) (fun _ _ => rfl)) (run_main m ρ)

end Cert.KernelIdeal.Hand

end
-- ==== Proof.Value.Scale.lean ====
/-
  The normalising factor of a node, on the extended reals. The kernel takes the reciprocal square root of the degree,
  the reference its power of minus one half; both then put zero where the magnitude is infinite. The two agree at
  every degree, negative and infinite ones too, and the factor is a nonnegative real.
-/
module

public import Idealize.ShloMosaic.PureOps.Ideal.Laws
public import Idealize.ShloMosaic.Lib.ValueIdxCore

@[expose] public section

noncomputable section

namespace Cert.Layer

open Idealize.ShloMosaic

/-- The factor of a node of degree `d`: `1 / √d`, or zero where that is infinite. -/
def scale (d : EReal) : EReal := if max (Ideal.rsqrt d) (-Ideal.rsqrt d) = ⊤ then 0 else Ideal.rsqrt d

/-- A select on an equality test is the conditional on the equality. -/
theorem select_oeq (x y a b : EReal) : Scalar.select (Ideal.cmp .oeq x y) a b = if x = y then a else b := by
  by_cases h : x = y
  · rw [if_pos h]; simp only [Ideal.cmp, h, decide_true]; rfl
  · rw [if_neg h]; simp only [Ideal.cmp, h, decide_false]; rfl

/-- A real's magnitude is not infinite. -/
theorem magnitude_ne_top (r : ℝ) : ¬ max (r : EReal) (-(r : EReal)) = ⊤ :=
  (max_lt (EReal.coe_lt_top r) (by rw [← EReal.coe_neg]; exact EReal.coe_lt_top _)).ne

/-- At positive reals the factor is the reciprocal square root. -/
theorem scale_pos {r : ℝ} (h : 0 < r) : scale r = (((Real.sqrt r)⁻¹ : ℝ) : EReal) := by
  unfold scale
  rw [Ideal.rsqrt_coe, if_neg (not_lt.2 h.le), if_neg h.ne', if_neg (magnitude_ne_top _)]

/-- At nonpositive reals the factor is zero. -/
theorem scale_nonpos {r : ℝ} (h : r ≤ 0) : scale r = 0 := by
  unfold scale
  rw [Ideal.rsqrt_coe]
  rcases h.lt_or_eq with h | h
  · rw [if_pos h]; simp
  · rw [if_neg (not_lt.2 h.ge), if_pos h]; simp

theorem scale_top : scale ⊤ = 0 := by simp [scale]
theorem scale_bot : scale ⊥ = 0 := by simp [scale]

/-- The factor is a nonnegative real. -/
theorem scale_real (d : EReal) : 0 ≤ scale d ∧ scale d ≠ ⊤ := by
  induction d using EReal.rec with
  | bot => rw [scale_bot]; simp
  | top => rw [scale_top]; simp
  | coe r =>
    rcases le_or_gt r 0 with h | h
    · rw [scale_nonpos h]; simp
    · rw [scale_pos h]
      exact ⟨EReal.coe_nonneg.2 (inv_nonneg.2 (Real.sqrt_nonneg r)), EReal.coe_ne_top _⟩

/-- The power of minus one half gives the same factor: of a nonpositive real that power is zero, the
    reciprocal square root infinite. -/
theorem scale_of_pow (d : EReal) :
    (if max (Ideal.pow d ((-(1 / 2) : ℝ) : EReal)) (-Ideal.pow d ((-(1 / 2) : ℝ) : EReal)) = ⊤ then 0
      else Ideal.pow d ((-(1 / 2) : ℝ) : EReal)) = scale d := by
  induction d using EReal.rec with
  | bot =>
    rw [scale_bot, show Ideal.pow ⊥ ((-(1 / 2) : ℝ) : EReal) = ⊥ from rfl]
    simp
  | top =>
    rw [scale_top]
    have h1 : ¬ (0 : EReal) < ((-(1 / 2) : ℝ) : EReal) := by
      rw [not_lt]; exact EReal.coe_nonpos.2 (by norm_num)
    have h2 : ((-(1 / 2) : ℝ) : EReal) ≠ 0 := by
      intro h; have := EReal.coe_eq_zero.1 h; norm_num at this
    have : Ideal.pow ⊤ ((-(1 / 2) : ℝ) : EReal) = 0 := by
      show (if (0 : EReal) < ((-(1 / 2) : ℝ) : EReal) then ⊤ else if ((-(1 / 2) : ℝ) : EReal) = 0 then 1 else 0) = (0 : EReal)
      rw [if_neg h1, if_neg h2]
    rw [this]; simp
  | coe r =>
    rw [Ideal.pow_coe_coe, if_neg (magnitude_ne_top _), Real.rpow_eq_pow]
    rcases le_or_gt r 0 with h | h
    · rw [scale_nonpos h, EReal.coe_eq_zero]
      rcases h.lt_or_eq with h | h
      · rw [Real.rpow_def_of_neg h, show -(1 / 2) * Real.pi = -(Real.pi / 2) by ring, Real.cos_neg,
          Real.cos_pi_div_two, mul_zero]
      · rw [h]; exact Real.zero_rpow (by norm_num)
    · rw [scale_pos h, Real.sqrt_eq_rpow, ← Real.rpow_neg h.le]

end Cert.Layer

end
-- ==== Proof.Value.Payloads.lean ====
/-
  The kernel's payloads read at an index on the extended reals: row sums and one, products, the node factor, the
  scaled features, and the emitted block in its three printings, which read the same.
-/
module

public import proofs.«01_k».proof.Proof.HandI.Inv
public import proofs.«01_k».proof.Proof.Value.Scale
public import Idealize.ShloMosaic.Lib.MatmulPlain
public import Idealize.ShloMosaic.Lib.ValueIdx
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-- The pattern of one denotes one, -/
theorem one_bits : Ideal.ofBits .f32 0x3F800000#32 = 1 := by simp [Ideal.ofBits, Ideal.ieee, -EReal.coe_mul]; norm_num
/-- and that of infinity the top element. -/
theorem inf_bits : Ideal.ofBits .f32 0x7F800000#32 = ⊤ := by simp [Ideal.ofBits, Ideal.ieee]

/-- A plain product onto zero, at row `r` and column `c`. -/
theorem matmul_zero {M K N : ℕ} (lhs : FVec Ideal ⟨2, ![M, K]⟩ .f32) (rhs : FVec Ideal ⟨2, ![K, N]⟩ .f32) (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_plain_apply, constant_apply, Ideal.ofBits_zero_f32, zero_add]

/-- A column broadcast over the lanes reads its row. -/
theorem bcast_col {n : ℕ} {α : Type} (x : (⟨2, ![n, 1]⟩ : Shape).Idx → α) (h : (⟨2, ![n, 1]⟩ : Shape).Broadcasts ⟨2, ![n, 128]⟩)
    (hn : n ≠ 1) (r : Fin n) (c : Fin 128) : broadcastTo ⟨2, ![n, 128]⟩ x h (ix2 r c) = x (ix2 r 0) :=
  broadcastTo_apply x h _ _ fun a => match a with
    | ⟨0, _⟩ => (if_neg hn).symm
    | ⟨1, _⟩ => rfl

/-- A row broadcast over the rows reads its lane. -/
theorem bcast_row {α : Type} (x : S1x128.Idx → α) (r : Fin 400) (c : Fin 128) :
    broadcastTo S400x128 x broadcasts_S1x128_S400x128 (ix2 r c) = x (ix2 0 c) :=
  broadcastTo_apply x _ _ _ fun a => match a with
    | ⟨0, _⟩ => rfl
    | ⟨1, _⟩ => rfl

/-- A block's degrees: each row's sum, and one. -/
theorem pay3_apply (x : Vec Ideal S400x10000 .f32) (r : Fin 400) (q : Fin 1) :
    k0_pay3 x (ix2 r q) = (∑ j : Fin 10000, x (ix2 r j)) + 1 := by
  unfold k0_pay3
  simp only [shapeCast_self]
  rw [addf_apply, broadcast_apply]
  refine congrArg₂ (· + ·) ?_ one_bits
  refine (shapeCast_apply _ _ _ (ix1 r) ?_).trans ?_
  · rw [Shape.rowMajor_val_two]
    have := q.isLt
    show _ = r.val * 1 + q.val
    rw [Shape.rowMajor_val_one]
    show r.val = _
    omega
  · refine (Ideal.multiReduction_add_single x _ _ _ _ (ix1 r)).trans ?_
    refine Finset.sum_congr rfl fun k _ => congrArg x (funext fun a => Fin.ext ?_)
    match a with
    | ⟨0, _⟩ => rfl
    | ⟨1, _⟩ => rfl

/-- A block's projected features. -/
theorem pay4_apply (x : Vec Ideal S400x128 .f32) (w : Vec Ideal S128x128 .f32) (r : Fin 400) (c : Fin 128) :
    k0_pay4 x w (ix2 r c) = ∑ l : Fin 128, x (ix2 r l) * w (ix2 l c) := by
  unfold k0_pay4
  simp only [shapeCast_self]
  exact matmul_zero x w r c

/-- The node factor. -/
theorem pay6_apply (d : Vec Ideal S10000x1 .f32) (i : S10000x1.Idx) : k0_pay6 d i = Layer.scale (d i) := by
  show Scalar.select (Ideal.cmp .oeq (max (Ideal.rsqrt (d i)) (-Ideal.rsqrt (d i))) (Ideal.ofBits .f32 0x7F800000#32))
    (Ideal.ofBits .f32 0x00000000#32) (Ideal.rsqrt (d i)) = _
  rw [Layer.select_oeq, inf_bits, Ideal.ofBits_zero_f32]
  rfl

theorem pay7_apply (d : Vec Ideal S10000x1 .f32) (i : S10000x1.Idx) : k0_pay7 d i = Layer.scale (d i) := by
  unfold k0_pay7
  simp only [shapeCast_self]
  exact pay6_apply d i

/-- The scaled features. -/
theorem pay8_apply (d : Vec Ideal S10000x1 .f32) (h : Vec Ideal S10000x128 .f32) (j : Fin 10000) (c : Fin 128) :
    k0_pay8 d h (ix2 j c) = Layer.scale (d (ix2 j 0)) * h (ix2 j c) := by
  unfold k0_pay8
  simp only [shapeCast_self]
  rw [mulf_apply, bcast_col _ _ (by decide), pay6_apply]

/-- The emitted element from its block of matrix rows, the scaled features, the block's factors and own scaled
    features, and the bias. -/
def emitted (a : Vec Ideal S400x10000 .f32) (hp : Vec Ideal S10000x128 .f32) (s : Vec Ideal S400x1 .f32)
    (own : Vec Ideal S400x128 .f32) (b : Vec Ideal S1x128 .f32) (r : Fin 400) (c : Fin 128) : EReal :=
  s (ix2 r 0) * ((∑ j : Fin 10000, a (ix2 r j) * hp (ix2 j c)) + own (ix2 r c)) + b (ix2 0 c)

theorem pay2_apply (a : Vec Ideal S400x10000 .f32) (hp : Vec Ideal S10000x128 .f32) (s : Vec Ideal S400x1 .f32)
    (own : Vec Ideal S400x128 .f32) (b : Vec Ideal S1x128 .f32) (r : Fin 400) (c : Fin 128) :
    k0_pay2 a hp s own b (ix2 r c) = emitted a hp s own b r c := by
  unfold k0_pay2
  simp only [shapeCast_self]
  rw [addf_apply, mulf_apply, addf_apply, bcast_col _ _ (by decide), bcast_row]
  exact congrArg (fun z => s (ix2 r 0) * (z + own (ix2 r c)) + b (ix2 0 c)) (matmul_zero a hp r c)

/-- The turning point's block is computed as the streamed ones are. -/
theorem pay9_eq (a : Vec Ideal S400x10000 .f32) (hp : Vec Ideal S10000x128 .f32) (s : Vec Ideal S400x1 .f32)
    (own : Vec Ideal S400x128 .f32) (b : Vec Ideal S1x128 .f32) : k0_pay9 a hp s own b = k0_pay2 a hp s own b := rfl

/-- Rows kept in the narrow format are on the extended reals the rows themselves. -/
theorem widen_kept (a : Vec Ideal S400x10000 .f32) :
    (extf .f32 (shapeCast S400x10000 (k0_pay5 a) shapeCasts_S1x400x10000_S400x10000) bitsLt_bf16_f32 : FVec Ideal S400x10000 .f32) = a := by
  unfold k0_pay5
  funext i
  rw [extf_apply, shapeCast_shapeCast, truncf_apply]

/-- So a kept block is emitted as a streamed one is. -/
theorem pay1_eq (a : Vec Ideal S400x10000 .f32) (hp : Vec Ideal S10000x128 .f32) (s : Vec Ideal S400x1 .f32)
    (own : Vec Ideal S400x128 .f32) (b : Vec Ideal S1x128 .f32) : k0_pay1 (k0_pay5 a) hp s own b = k0_pay2 a hp s own b := by
  unfold k0_pay1
  dsimp only
  rw [widen_kept]
  rfl

end Cert.KernelIdeal.Hand

end
-- ==== Proof.Value.Sums.lean ====
/-
  The algebra of one output row. The kernel sums the row of the plain adjacency matrix against the scaled features,
  adds the node's own scaled features, and scales the total; the reference first adds the unit self weight to the
  matrix and scales each entry on both sides. On the extended reals the two agree when the row's own diagonal entry is
  not negative and the factors are nonnegative reals, whatever the features and the other entries are.
-/
module

public import Mathlib.Data.EReal.Inv
public import Mathlib.Algebra.BigOperators.Fin

@[expose] public section

noncomputable section

namespace Cert.Layer

open scoped BigOperators

/-- The unit self weight: one on the diagonal, zero beside it. -/
def unit {n : ℕ} (i j : Fin n) : EReal := if i = j then 1 else 0

/-- A nonnegative real factor goes into a sum. -/
theorem mul_sum {ι : Type} (S : Finset ι) (s : EReal) (h0 : 0 ≤ s) (ht : s ≠ ⊤) (f : ι → EReal) :
    s * ∑ j ∈ S, f j = ∑ j ∈ S, s * f j := by
  classical
  induction S using Finset.induction_on with
  | empty => simp
  | insert a S ha ih =>
    rw [Finset.sum_insert ha, Finset.sum_insert ha, EReal.left_distrib_of_nonneg_of_ne_top h0 ht, ih]

/-- A row's sum with the self weight is its sum without it, and one. -/
theorem sum_add_unit {n : ℕ} (a : Fin n → EReal) (i : Fin n) : ∑ j, (a j + unit i j) = (∑ j, a j) + 1 := by
  rw [Finset.sum_add_distrib]
  congr 1
  simp [unit]

/-- A nonnegative entry and the self weight distribute over a factor; beside the diagonal the weight is zero. -/
theorem add_unit_mul {n : ℕ} (a : Fin n → EReal) (i j : Fin n) (h : 0 ≤ a i) (y : EReal) :
    (a j + unit i j) * y = a j * y + unit i j * y := by
  unfold unit
  split
  · next e => subst e; exact EReal.right_distrib_of_nonneg h zero_le_one
  · rw [add_zero, zero_mul, add_zero]

/-- One output element: the reference's sum is the kernel's. -/
theorem row_eq {n : ℕ} (a s h : Fin n → EReal) (i : Fin n) (ha : 0 ≤ a i) (hs : ∀ j, 0 ≤ s j ∧ s j ≠ ⊤) :
    ∑ j, (a j + unit i j) * s i * s j * h j = s i * ((∑ j, a j * (s j * h j)) + s i * h i) := by
  have hterm : ∀ j, (a j + unit i j) * s i * s j * h j
      = s i * (a j * (s j * h j)) + s i * (unit i j * (s j * h j)) := by
    intro j
    rw [← EReal.left_distrib_of_nonneg_of_ne_top (hs i).1 (hs i).2, ← add_unit_mul a i j ha, mul_comm _ (s i),
      mul_assoc, mul_assoc]
  rw [Finset.sum_congr rfl fun j _ => hterm j, Finset.sum_add_distrib, ← mul_sum _ _ (hs i).1 (hs i).2,
    ← mul_sum _ _ (hs i).1 (hs i).2, ← EReal.left_distrib_of_nonneg_of_ne_top (hs i).1 (hs i).2]
  congr 2
  simp [unit]

end Cert.Layer

end
-- ==== Proof.Value.Formula.lean ====
/-
  The layer's result on the extended reals, as the kernel groups it: degrees, node factors, projected features, and the
  scaled row sums with the bias.
-/
module

public import proofs.«01_k».proof.Proof.Value.Scale
public import proofs.«01_k».proof.Proof.Value.Sums

@[expose] public section

noncomputable section

namespace Cert.Layer

open Idealize.ShloMosaic Idealize.ShloMosaic.ValueIdx
open scoped BigOperators

variable (X : (⟨2, ![10000, 128]⟩ : Shape).Idx → EReal) (A : (⟨2, ![10000, 10000]⟩ : Shape).Idx → EReal)
  (W : (⟨2, ![128, 128]⟩ : Shape).Idx → EReal) (b : (⟨1, ![128]⟩ : Shape).Idx → EReal)

/-- The degree of node `i`: its row's sum, and one for itself. -/
def deg (i : Fin 10000) : EReal := (∑ j : Fin 10000, A (ix2 i j)) + 1
/-- The projected feature `c` of node `j`. -/
def proj (j : Fin 10000) (c : Fin 128) : EReal := ∑ l : Fin 128, X (ix2 j l) * W (ix2 l c)
/-- The result of node `i` at feature `c`. -/
def resultAt (i : Fin 10000) (c : Fin 128) : EReal :=
  scale (deg A i) * ((∑ j : Fin 10000, A (ix2 i j) * (scale (deg A j) * proj X W j c))
    + scale (deg A i) * proj X W i c) + b (ix1 c)
/-- The whole result. -/
def result : (⟨2, ![10000, 128]⟩ : Shape).Idx → EReal := fun i => resultAt X A W b (i 0) (i 1)

/-- The same element with the self weight in the matrix and both factors on each entry. -/
theorem resultAt_eq (i : Fin 10000) (c : Fin 128) (h : 0 ≤ A (ix2 i i)) :
    (∑ j : Fin 10000, (A (ix2 i j) + unit i j) * scale (deg A i) * scale (deg A j) * proj X W j c) + b (ix1 c)
      = resultAt X A W b i c := by
  unfold resultAt
  rw [row_eq (fun j => A (ix2 i j)) (fun j => scale (deg A j)) (fun j => proj X W j c) i h fun j => scale_real _]

end Cert.Layer

end
-- ==== Proof.Value.Result.lean ====
/-
  What the kernel leaves in its result array on the extended reals: the layer's formula. Every emitted block is the
  formula's block, and the emitted blocks cover the array.
-/
module

public import proofs.«01_k».proof.Proof.HandI.Run
public import proofs.«01_k».proof.Proof.Value.Payloads
public import proofs.«01_k».proof.Proof.Value.Formula
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA
open Idealize.ShloMosaic.Pipeline (Dat Cfg Window)
open scoped BigOperators

/-! ## The computed arrays at an index -/

section Arrays

variable (X : Vec Ideal S10000x128 .f32) (A : Vec Ideal S10000x10000 .f32) (W : Vec Ideal S128x128 .f32)
  (B : Vec Ideal S1x128 .f32)

theorem degA_apply (i : Fin 10000) (q : Fin 1) : degA A (ix2 i q) = Layer.deg A i := by
  refine (pay3_apply (rowsAt A (blkOf i)) (posOf i) q).trans ?_
  show (∑ j : Fin 10000, A (ix2 (rowOf (blkOf i) (posOf i)) j)) + 1 = _
  rw [rowOf_blkOf]
  rfl

theorem projA_apply (j : Fin 10000) (c : Fin 128) : projA X W (ix2 j c) = Layer.proj X W j c := by
  refine (pay4_apply (rowsAt X (blkOf j)) W (posOf j) c).trans ?_
  show (∑ l : Fin 128, X (ix2 (rowOf (blkOf j) (posOf j)) l) * W (ix2 l c)) = _
  rw [rowOf_blkOf]
  rfl

theorem disA_apply (i : Fin 10000) (q : Fin 1) : disA A (ix2 i q) = Layer.scale (Layer.deg A i) := by
  unfold disA
  rw [pay7_apply, degA_apply]

theorem hpA_apply (j : Fin 10000) (c : Fin 128) :
    hpA X A W (ix2 j c) = Layer.scale (Layer.deg A j) * Layer.proj X W j c := by
  unfold hpA
  rw [pay8_apply, degA_apply, projA_apply]

/-- Whichever way a block is emitted, it is computed from its rows of the matrix. -/
theorem emitA_eq (k : Fin 25) :
    emitA X A W B k = k0_pay2 (rowsAt A k) (hpA X A W) (rowsAt (disA A) k) (rowsAt (hpA X A W) k) B := by
  unfold emitA keptA
  split
  · exact pay9_eq _ _ _ _ _
  · split
    · exact pay1_eq _ _ _ _ _
    · rfl

/-- An emitted block is the formula's block. -/
theorem emitA_apply (b : (⟨1, ![128]⟩ : Shape).Idx → EReal) (hB : ∀ c : Fin 128, B (ix2 0 c) = b (ix1 c))
    (k : Fin 25) (r : Fin 400) (c : Fin 128) :
    emitA X A W B k (ix2 r c) = Layer.resultAt X A W b (rowOf k r) c := by
  rw [emitA_eq, pay2_apply]
  show disA A (ix2 (rowOf k r) 0) * ((∑ j : Fin 10000, A (ix2 (rowOf k r) j) * hpA X A W (ix2 j c))
    + hpA X A W (ix2 (rowOf k r) c)) + B (ix2 0 c) = _
  rw [disA_apply, hpA_apply, hB, Finset.sum_congr rfl fun j _ => by rw [hpA_apply X A W j c]]
  rfl

end Arrays

/-! ## The result array -/

variable (m : (ℓ : Loc nD τ sig) → Buf (Elt Ideal) ℓ) (c : Dev nD)

/-- The bias as a vector. -/
abbrev bias : (⟨1, ![128]⟩ : Shape).Idx → EReal := m ((c.tc : Thread nD τ).loc main_arg4)

theorem Xc_eq : Xc m c = m ((c.tc : Thread nD τ).loc main_arg0) := V_main_arg0 m c
theorem Ac_eq : Ac m c = m ((c.tc : Thread nD τ).loc main_arg1) := V_main_arg1 m c
theorem Wc_eq : Wc m c = m ((c.tc : Thread nD τ).loc main_arg3) := V_main_arg3 m c

/-- The staged bias is the argument, reshaped to one row. -/
theorem Bc_apply (k : Fin 128) : Bc m c (ix2 0 k) = bias m c (ix1 k) := by
  have h : Bc m c = shapeCast S1x128 (m ((c.tc : Thread nD τ).loc main_arg4)) shapeCasts_S128_S1x128 := by
    unfold Bc
    entry_read
    rfl
  rw [h]
  refine shapeCast_apply _ _ _ (ix1 k) ?_
  rw [Shape.rowMajor_val_two, Shape.rowMajor_val_one]
  show k.val = 0 * 128 + k.val
  omega

theorem mem_blk4 (t : Fin cfg0.N) (i : S10000x128.Idx) :
    i ∈ ((cfg0.win 4).blk t).view.set ↔ ∀ a, win0_4.index t a * S400x128.size a ≤ (i a).val
      ∧ (i a).val < win0_4.index t a * S400x128.size a + S400x128.size a := by
  show i ∈ ((View.whole main_v1).slice (win0_4.rect t)).set ↔ _
  rw [View.set_slice_whole, Rect.mem_set_unit]

/-- After the run the result array holds the layer's formula of the arguments. -/
theorem arr_eq : (dats m 0 c).arrAt 4 cfg0.N
    = Layer.result (m ((c.tc : Thread nD τ).loc main_arg0)) (m ((c.tc : Thread nD τ).loc main_arg1))
        (m ((c.tc : Thread nD τ).loc main_arg3)) (m ((c.tc : Thread nD τ).loc main_arg4)) := by
  rw [← Xc_eq m c, ← Ac_eq m c, ← Wc_eq m c]
  refine Dat.arrAt_eq_of_cover (dats m 0 c) 4 _ (fun t _ => ?_) fun i => ?_
  · funext j
    obtain ⟨r, q, rfl⟩ : ∃ (r : Fin 400) (q : Fin 128), j = ix2 r q := ⟨j 0, j 1, eq_ix2 j⟩
    refine (emitA_apply (Xc m c) (Ac m c) (Wc m c) (Bc m c) (bias m c) (Bc_apply m c) ⟨outBlk t.val, outBlk_lt t⟩ r q).trans ?_
    show _ = Layer.result (Xc m c) (Ac m c) (Wc m c) (bias m c) ((win0_4.rect t).emb (ix2 r q))
    have e : (win0_4.rect t).emb (ix2 r q) = (ix2 (rowOf ⟨outBlk t.val, outBlk_lt t⟩ r) q : S10000x128.Idx) := by
      funext a
      refine Fin.ext ?_
      rw [win0_4.rect_emb_val t (ix2 r q) a, index4_at t]
      match a with
      | ⟨0, _⟩ => show outBlk t.val * 400 + r.val = 400 * outBlk t.val + r.val; omega
      | ⟨1, _⟩ => show 0 * 128 + q.val = q.val; omega
    rw [e]
    rfl
  · obtain ⟨a, b, rfl⟩ : ∃ (a : Fin 10000) (b : Fin 128), i = ix2 a b := ⟨i 0, i 1, eq_ix2 i⟩
    obtain ⟨t, ht, hk⟩ := outBlk_cover (blkOf a)
    refine ⟨t, (flush4_iff t).2 ht, (mem_blk4 t (ix2 a b)).2 ?_⟩
    rw [index4_at t, hk]
    intro x
    match x with
    | ⟨0, _⟩ =>
      refine ⟨?_, ?_⟩
      · show a.val / 400 * 400 ≤ a.val; omega
      · show a.val < a.val / 400 * 400 + 400; omega
    | ⟨1, _⟩ =>
      refine ⟨?_, ?_⟩
      · show 0 * 128 ≤ b.val; omega
      · show b.val < 0 * 128 + 128; omega

end Cert.KernelIdeal.Hand

end
-- ==== Proof.Value.Reference.lean ====
/-
  The reference read at an index on the extended reals: the matrix with its self weights, the degrees, the node factors
  by the power of minus one half, and the result, which is the layer's formula when no diagonal entry is negative.
-/
module

public import proofs.«01_k».proof.Proof.Gen.ReferenceIdeal.Read
public import proofs.«01_k».proof.Proof.Value.Formula
public import Idealize.ShloMosaic.Lib.ValueIdx

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.ValueIdx
open scoped BigOperators

/-- Two coordinates below 10000 are equal words exactly when equal. -/
theorem word_eq_iff (i j : Fin 10000) : BitVec.ofNat 32 i.val = BitVec.ofNat 32 j.val ↔ i = j := by
  constructor
  · intro h
    have h' := congrArg BitVec.toNat h
    simp only [BitVec.toNat_ofNat] at h'
    exact Fin.ext (by omega)
  · rintro rfl; rfl

/-- The diagonal's test bit. -/
theorem diag_bit (i j : Fin 10000) :
    IntOp.cmpi .eq (IntOp.addi (BitVec.ofNat 32 i.val) 0#32) (BitVec.ofNat 32 j.val) = if i = j then 1#1 else 0#1 := by
  have e : IntOp.addi (BitVec.ofNat 32 i.val) 0#32 = BitVec.ofNat 32 i.val := by simp [IntOp.addi]
  rw [e]
  by_cases h : i = j
  · rw [if_pos h, h]; simp [IntOp.cmpi]
  · rw [if_neg h]
    have hn := mt (word_eq_iff i j).1 h
    simp only [IntOp.cmpi, beq_eq_false_iff_ne.2 hn]
    rfl

variable (x0 : Vec Ideal S10000x128 .f32) (x1 : Vec Ideal S10000x10000 .f32) (x3 : Vec Ideal S128x128 .f32)
  (x4 : Vec Ideal S128 .f32)

/-- The diagonal's test in the reference. -/
theorem test_apply (i j : Fin 10000) : val_main_v4 (F := Ideal) (ix2 i j) = if i = j then 1#1 else 0#1 := by
  rw [val_main_v4_apply, val_main_v3_apply, val_main_v2_apply, val_main_v0_apply, val_main_v1_apply, val_main_c_apply]
  exact diag_bit i j

/-- The matrix with its self weights. -/
theorem weights_apply (i j : Fin 10000) : val_main_v6 (F := Ideal) x1 (ix2 i j) = x1 (ix2 i j) + Layer.unit i j := by
  rw [val_main_v6_apply, val_main_v5_apply, test_apply]
  show x1 (ix2 i j) + (((if i = j then 1#1 else 0#1 : BitVec 1).toNat : ℝ) : EReal) = _
  unfold Layer.unit
  split <;> simp

/-- The degrees. -/
theorem deg_apply (i : Fin 10000) : val_main_v7 (F := Ideal) x1 (ix1 i) = Layer.deg x1 i := by
  rw [val_main_v7_apply, val_main_cst_apply]
  show Ideal.ofBits .f32 0x00000000#32 + _ = _
  rw [Ideal.ofBits_zero_f32, zero_add]
  refine (Finset.sum_congr rfl fun k _ => ?_).trans (Layer.sum_add_unit (fun j => x1 (ix2 i j)) i)
  exact (congrArg _ (eq_ix2 _)).trans (weights_apply x1 i k)

/-- The pattern of minus one half denotes it, -/
theorem neg_half_bits : Ideal.ofBits .f32 0xBF000000#32 = ((-(1 / 2) : ℝ) : EReal) := by
  simp [Ideal.ofBits, Ideal.ieee, -EReal.coe_mul]; norm_num
/-- and that of infinity the top element. -/
theorem top_bits : Ideal.ofBits .f32 0x7F800000#32 = ⊤ := by simp [Ideal.ofBits, Ideal.ieee]

/-- The node factors. -/
theorem scale_apply (i : Fin 10000) : val_main_v11 (F := Ideal) x1 (ix1 i) = Layer.scale (Layer.deg x1 i) := by
  have hp : val_main_v9 (F := Ideal) x1 (ix1 i) = Ideal.pow (Layer.deg x1 i) ((-(1 / 2) : ℝ) : EReal) := by
    rw [val_main_v9_apply, val_main_v8_apply, val_main_cst_0_apply, deg_apply]
    show Ideal.pow _ (Ideal.ofBits .f32 0xBF000000#32) = _
    rw [neg_half_bits]
  rw [val_main_v11_apply, val_main_v10_apply, val_main_call0_v0_apply, val_main_call0_v1_apply, val_main_call0_cst_apply,
    val_main_call1_v1_apply, val_main_call1_v0_apply, val_main_cst_1_apply, hp]
  show Scalar.select (Ideal.cmp .oeq (max (Ideal.pow (Layer.deg x1 i) ((-(1 / 2) : ℝ) : EReal)) (-Ideal.pow (Layer.deg x1 i) ((-(1 / 2) : ℝ) : EReal)))
    (Ideal.ofBits .f32 0x7F800000#32)) (Ideal.ofBits .f32 0x00000000#32) (Ideal.pow (Layer.deg x1 i) ((-(1 / 2) : ℝ) : EReal)) = _
  rw [Layer.select_oeq, top_bits, Ideal.ofBits_zero_f32, Layer.scale_of_pow]

/-- The matrix normalised on both sides. -/
theorem norm_apply (i j : Fin 10000) : val_main_v17 (F := Ideal) x1 (ix2 i j)
    = (x1 (ix2 i j) + Layer.unit i j) * Layer.scale (Layer.deg x1 i) * Layer.scale (Layer.deg x1 j) := by
  rw [val_main_v17_apply, val_main_v16_apply, val_main_v15_apply, val_main_v14_apply, val_main_v13_apply, val_main_v12_apply,
    weights_apply]
  refine congrArg₂ (fun p q : EReal => (x1 (ix2 i j) + Layer.unit i j) * p * q) ?_ ?_
  · exact (congrArg _ (eq_ix1 _)).trans (scale_apply x1 i)
  · exact (congrArg _ (eq_ix1 _)).trans (scale_apply x1 j)

/-- The projected features. -/
theorem proj_apply (j : Fin 10000) (c : Fin 128) : val_main_v18 (F := Ideal) x0 x3 (ix2 j c) = Layer.proj x0 x3 j c := by
  rw [val_main_v18_apply]
  refine Finset.sum_congr rfl fun l _ => ?_
  exact congrArg₂ (fun p q : EReal => p * q) (congrArg x0 (eq_ix2 _)) (congrArg x3 (eq_ix2 _))

/-- The reference's result is the layer's formula. -/
theorem result_eq (h : ∀ i : Fin 10000, 0 ≤ x1 (ix2 i i)) :
    val_main_v22 (F := Ideal) x0 x1 x3 x4 = Layer.result x0 x1 x3 x4 := by
  funext o
  obtain ⟨i, c, rfl⟩ : ∃ (i : Fin 10000) (c : Fin 128), o = ix2 i c := ⟨o 0, o 1, eq_ix2 o⟩
  rw [val_main_v22_apply, val_main_v21_apply, val_main_v20_apply, val_main_v19_apply]
  refine Eq.trans ?_ (Layer.resultAt_eq x0 x1 x3 x4 i c (h i))
  refine congrArg₂ (fun p q : EReal => p + q) (Finset.sum_congr rfl fun j _ => ?_) (congrArg x4 (eq_ix1 _))
  refine congrArg₂ (fun p q : EReal => p * q) ?_ ?_
  · exact (congrArg _ (eq_ix2 _)).trans (norm_apply x1 i j)
  · exact (congrArg _ (eq_ix2 _)).trans (proj_apply x0 x3 j c)

end Cert.ReferenceIdeal.Hand

end
-- ==== Proof.Value.Runs.lean ====
/-
  The two programs' runs to the layer's formula: the kernel's, and the reference's when no diagonal entry is negative.
-/
module

public import proofs.«01_k».proof.Proof.HandI.Frame
public import proofs.«01_k».proof.Proof.Value.Result
public import proofs.«01_k».proof.Proof.Value.Reference

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-- The layer's formula of a memory's arguments. -/
abbrev layerOf (m : (ℓ : Loc nD τ sig) → Buf (Elt Ideal) ℓ) (c : Dev nD) : (⟨2, ![10000, 128]⟩ : Shape).Idx → EReal :=
  Layer.result (m ((c.tc : Thread nD τ).loc main_arg0)) (m ((c.tc : Thread nD τ).loc main_arg1))
    (m ((c.tc : Thread nD τ).loc main_arg3)) (m ((c.tc : Thread nD τ).loc main_arg4))

theorem run_layer (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ) (frame_main m ρ)) fun _ h c =>
    ⟨((h.1.1 c).1 4).trans (arr_eq m c), h.2.1 c⟩

end Cert.KernelIdeal.Hand

namespace Cert.ReferenceIdeal.Hand

open Cert.ReferenceIdeal Cert.ReferenceIdeal.Gen
open Idealize.ShloMosaic Idealize.ShloMosaic.TcCoe Idealize.ShloMosaic.ValueIdx Idealize.SL.Sem

/-- The layer's formula of a memory's arguments. -/
abbrev layerOf (m : (ℓ : Loc nD τ sig) → Buf (Elt Ideal) ℓ) (c : Dev nD) : (⟨2, ![10000, 128]⟩ : Shape).Idx → EReal :=
  Layer.result (m ((c.tc : Thread nD τ).loc main_arg0)) (m ((c.tc : Thread nD τ).loc main_arg1))
    (m ((c.tc : Thread nD τ).loc main_arg3)) (m ((c.tc : Thread nD τ).loc main_arg4))

theorem run_layer (m : (ℓ : Loc nD τ sig) → Buf (Elt Ideal) ℓ) (ρ : Dev nD → PrngReg)
    (h0 : ∀ (c : Dev nD) (i : Fin 10000), (0 : EReal) ≤ m ((c.tc : Thread nD τ).loc main_arg1) (ix2 i i)) :
    θ_run (defs (F := Ideal)) (onTc (τ := τ) (main (F := Ideal))) ⟨m, fun _ => 0, ρ⟩ (fun r => ∀ c : Dev nD,
      r.2.mem ((c.tc : Thread nD τ).loc main_v22) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (Value.run m ρ) fun _ h c =>
    ⟨(h c).1.trans ((Read.val_main_v22_eq _ _ _ _).trans (result_eq _ _ _ _ (h0 c))), (h c).2⟩

end Cert.ReferenceIdeal.Hand

end
-- ==== Proof.Value.Pre.lean ====
/-
  The precondition read at the diagonal: the predicate's element there compares the diagonal's entry with zero.
-/
module

public import proofs.«01_k».proof.Pre_self_weights_nonneg
public import proofs.«01_k».proof.Proof.Value.Reference

@[expose] public section

set_option maxRecDepth 16384

noncomputable section

namespace Cert.Pre_self_weights_nonneg

open Idealize.ShloMosaic Idealize.ShloMosaic.ValueIdx

/-- The predicate's one shape fact. -/
instance facts : Facts := ⟨by decide⟩

variable (x : FVec Ideal S10000x128 .f32) (a : FVec Ideal S10000x10000 .f32) (e : FVec Ideal S1 .f32)
  (w : FVec Ideal S128x128 .f32) (b : FVec Ideal S128 .f32)

/-- Where the predicate is one on the diagonal, the diagonal's entry is not negative. -/
theorem diag_nonneg (i : Fin 10000) (h : fn (F := Ideal) x a e w b (ix2 i i) = 1#1) : 0 ≤ a (ix2 i i) := by
  have h' : Ideal.cmp .oge (Scalar.select (IntOp.cmpi .eq (IntOp.addi (BitVec.ofNat 32 i.val) 0#32) (BitVec.ofNat 32 i.val))
      (a (ix2 i i)) (Ideal.ofBits .f32 0x00000000#32)) (Ideal.ofBits .f32 0x00000000#32) = 1#1 := h
  rw [ReferenceIdeal.Hand.diag_bit, if_pos rfl, select_one, Ideal.ofBits_zero_f32] at h'
  by_contra hn
  simp [Ideal.cmp, hn] at h'

end Cert.Pre_self_weights_nonneg

end
-- ==== Proof.lean ====
/-
  The certificate's claim, from its parts: the frames of the two kernels and of the reference, and the kernel's and the
  reference's runs to one formula of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.HandK.Frame
public import proofs.«01_k».proof.Proof.HandI.Frame
public import proofs.«01_k».proof.Proof.Value.Runs
public import proofs.«01_k».proof.Proof.Value.Pre
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The kernel's frame. -/
theorem kernel_frame : quiescent_Kernel := fun m g _ => Kernel.Hand.frame_main m g

/-- The idealised kernel's frame. -/
theorem kernelIdeal_frame : quiescent_KernelIdeal := fun m g _ => KernelIdeal.Hand.frame_main m g

/-- The reference's frame. -/
theorem referenceIdeal_frame : quiescent_ReferenceIdeal := fun m g _ =>
  θ_run_mono (ReferenceIdeal.Value.run m g) fun r h => ⟨fun c => (h c).2, sem_eq_zero_of_no_sems rfl r.2⟩

/-- The kernel computes the reference's result. -/
theorem kernel_eq_reference : algebraic_KernelIdeal_ReferenceIdeal_pre_self_weights_nonneg := by
  intro m g m' g' hpre hagree
  refine ⟨fun c => KernelIdeal.Hand.layerOf m c, KernelIdeal.Hand.run_layer m g, ?_⟩
  refine θ_run_mono (ReferenceIdeal.Hand.run_layer m' g' fun c i => ?_) fun r h c => ⟨(h c).1.trans ?_, (h c).2⟩
  · rw [(hagree c).2.1]
    exact Pre_self_weights_nonneg.diag_nonneg _ _ _ _ _ i (congrFun (hpre c) (ix2 i i))
  · obtain ⟨e0, e1, _, e3, e4⟩ := hagree c
    unfold ReferenceIdeal.Hand.layerOf
    rw [e0, e1, e3, e4]

theorem claim : Cert.Claim :=
  ⟨Cert.Kernel.Gen.facts, Cert.KernelIdeal.Gen.facts, Cert.ReferenceIdeal.Gen.facts, Pre_self_weights_nonneg.facts,
    kernel_frame, kernelIdeal_frame, fun m g _ => kernelIdeal_frame m g trivial,
    referenceIdeal_frame, fun m g _ => referenceIdeal_frame m g trivial, trivial, kernel_eq_reference⟩

end Cert.Proof

end
